-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Rw (m : (ℓ : Loc Cert.Rw.nD Cert.Rw.τ Cert.Rw.sig) → Buf (Elt Bits) ℓ) : Prop :=
  True

def Pre_RwIdeal (m : (ℓ : Loc Cert.RwIdeal.nD Cert.RwIdeal.τ Cert.RwIdeal.sig) → Buf (Elt Ideal) ℓ) : Prop :=
  True

def Pre_RwRefIdeal (m : (ℓ : Loc Cert.RwRefIdeal.nD Cert.RwRefIdeal.τ Cert.RwRefIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValRefIdeal (m : (ℓ : Loc Cert.ValRefIdeal.nD Cert.ValRefIdeal.τ Cert.ValRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyRefIdeal (m : (ℓ : Loc Cert.KeyRefIdeal.nD Cert.KeyRefIdeal.τ Cert.KeyRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Feat (m : (ℓ : Loc Cert.Feat.nD Cert.Feat.τ Cert.Feat.sig) → Buf (Elt Bits) ℓ) : Prop :=
  True

def Pre_FeatIdeal (m : (ℓ : Loc Cert.FeatIdeal.nD Cert.FeatIdeal.τ Cert.FeatIdeal.sig) → Buf (Elt Ideal) ℓ) : Prop :=
  True

def Pre_FeatRefIdeal (m : (ℓ : Loc Cert.FeatRefIdeal.nD Cert.FeatRefIdeal.τ Cert.FeatRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Rw [hRw : Cert.Rw.Facts] : Prop :=
  ∀ (m : (ℓ : Loc Cert.Rw.nD Cert.Rw.τ Cert.Rw.sig) → Buf (Elt Bits) ℓ) (g : Dev Cert.Rw.nD → PrngReg), Pre_Rw m →
    θ_run (Cert.Rw.defs (F := Bits)) (onTc (τ := Cert.Rw.τ) (Cert.Rw.main (F := Bits))) ⟨m, fun _ => 0, g⟩ (fun r => (∀ c : Dev Cert.Rw.nD,
      r.2.mem ((c.tc : Thread Cert.Rw.nD Cert.Rw.τ).loc Cert.Rw.main_arg0) = m ((c.tc : Thread Cert.Rw.nD Cert.Rw.τ).loc Cert.Rw.main_arg0)
      ∧ r.2.mem ((c.tc : Thread Cert.Rw.nD Cert.Rw.τ).loc Cert.Rw.main_arg1) = m ((c.tc : Thread Cert.Rw.nD Cert.Rw.τ).loc Cert.Rw.main_arg1))
      ∧ r.2.sem = fun _ => 0)

def quiescent_RwIdeal [hRwIdeal : Cert.RwIdeal.Facts] : Prop :=
  ∀ (m : (ℓ : Loc Cert.RwIdeal.nD Cert.RwIdeal.τ Cert.RwIdeal.sig) → Buf (Elt Ideal) ℓ) (g : Dev Cert.RwIdeal.nD → PrngReg), Pre_RwIdeal m →
    θ_run (Cert.RwIdeal.defs (F := Ideal)) (onTc (τ := Cert.RwIdeal.τ) (Cert.RwIdeal.main (F := Ideal))) ⟨m, fun _ => 0, g⟩ (fun r => (∀ c : Dev Cert.RwIdeal.nD,
      r.2.mem ((c.tc : Thread Cert.RwIdeal.nD Cert.RwIdeal.τ).loc Cert.RwIdeal.main_arg0) = m ((c.tc : Thread Cert.RwIdeal.nD Cert.RwIdeal.τ).loc Cert.RwIdeal.main_arg0)
      ∧ r.2.mem ((c.tc : Thread Cert.RwIdeal.nD Cert.RwIdeal.τ).loc Cert.RwIdeal.main_arg1) = m ((c.tc : Thread Cert.RwIdeal.nD Cert.RwIdeal.τ).loc Cert.RwIdeal.main_arg1))
      ∧ r.2.sem = fun _ => 0)

def quiescent_RwRefIdeal [hRwRefIdeal : Cert.RwRefIdeal.Facts] : Prop :=
  ∀ (m : (ℓ : Loc Cert.RwRefIdeal.nD Cert.RwRefIdeal.τ Cert.RwRefIdeal.sig) → Buf (Elt Ideal) ℓ) (g : Dev Cert.RwRefIdeal.nD → PrngReg), Pre_RwRefIdeal m →
    θ_run (Cert.RwRefIdeal.defs (F := Ideal)) (onTc (τ := Cert.RwRefIdeal.τ) (Cert.RwRefIdeal.main (F := Ideal))) ⟨m, fun _ => 0, g⟩ (fun r => (∀ c : Dev Cert.RwRefIdeal.nD,
      r.2.mem ((c.tc : Thread Cert.RwRefIdeal.nD Cert.RwRefIdeal.τ).loc Cert.RwRefIdeal.main_arg0) = m ((c.tc : Thread Cert.RwRefIdeal.nD Cert.RwRefIdeal.τ).loc Cert.RwRefIdeal.main_arg0)
      ∧ r.2.mem ((c.tc : Thread Cert.RwRefIdeal.nD Cert.RwRefIdeal.τ).loc Cert.RwRefIdeal.main_arg1) = m ((c.tc : Thread Cert.RwRefIdeal.nD Cert.RwRefIdeal.τ).loc Cert.RwRefIdeal.main_arg1))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyRefIdeal [hKeyRefIdeal : Cert.KeyRefIdeal.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Feat [hFeat : Cert.Feat.Facts] : Prop :=
  ∀ (m : (ℓ : Loc Cert.Feat.nD Cert.Feat.τ Cert.Feat.sig) → Buf (Elt Bits) ℓ) (g : Dev Cert.Feat.nD → PrngReg), Pre_Feat m →
    θ_run (Cert.Feat.defs (F := Bits)) (onTc (τ := Cert.Feat.τ) (Cert.Feat.main (F := Bits))) ⟨m, fun _ => 0, g⟩ (fun r => (∀ c : Dev Cert.Feat.nD,
      r.2.mem ((c.tc : Thread Cert.Feat.nD Cert.Feat.τ).loc Cert.Feat.main_arg0) = m ((c.tc : Thread Cert.Feat.nD Cert.Feat.τ).loc Cert.Feat.main_arg0)
      ∧ r.2.mem ((c.tc : Thread Cert.Feat.nD Cert.Feat.τ).loc Cert.Feat.main_arg1) = m ((c.tc : Thread Cert.Feat.nD Cert.Feat.τ).loc Cert.Feat.main_arg1)
      ∧ r.2.mem ((c.tc : Thread Cert.Feat.nD Cert.Feat.τ).loc Cert.Feat.main_arg2) = m ((c.tc : Thread Cert.Feat.nD Cert.Feat.τ).loc Cert.Feat.main_arg2)
      ∧ r.2.mem ((c.tc : Thread Cert.Feat.nD Cert.Feat.τ).loc Cert.Feat.main_arg3) = m ((c.tc : Thread Cert.Feat.nD Cert.Feat.τ).loc Cert.Feat.main_arg3)
      ∧ r.2.mem ((c.tc : Thread Cert.Feat.nD Cert.Feat.τ).loc Cert.Feat.main_arg4) = m ((c.tc : Thread Cert.Feat.nD Cert.Feat.τ).loc Cert.Feat.main_arg4)
      ∧ r.2.mem ((c.tc : Thread Cert.Feat.nD Cert.Feat.τ).loc Cert.Feat.main_arg5) = m ((c.tc : Thread Cert.Feat.nD Cert.Feat.τ).loc Cert.Feat.main_arg5)
      ∧ r.2.mem ((c.tc : Thread Cert.Feat.nD Cert.Feat.τ).loc Cert.Feat.main_arg6) = m ((c.tc : Thread Cert.Feat.nD Cert.Feat.τ).loc Cert.Feat.main_arg6)
      ∧ r.2.mem ((c.tc : Thread Cert.Feat.nD Cert.Feat.τ).loc Cert.Feat.main_arg7) = m ((c.tc : Thread Cert.Feat.nD Cert.Feat.τ).loc Cert.Feat.main_arg7)
      ∧ r.2.mem ((c.tc : Thread Cert.Feat.nD Cert.Feat.τ).loc Cert.Feat.main_arg8) = m ((c.tc : Thread Cert.Feat.nD Cert.Feat.τ).loc Cert.Feat.main_arg8)
      ∧ r.2.mem ((c.tc : Thread Cert.Feat.nD Cert.Feat.τ).loc Cert.Feat.main_arg9) = m ((c.tc : Thread Cert.Feat.nD Cert.Feat.τ).loc Cert.Feat.main_arg9))
      ∧ r.2.sem = fun _ => 0)

def quiescent_FeatIdeal [hFeatIdeal : Cert.FeatIdeal.Facts] : Prop :=
  ∀ (m : (ℓ : Loc Cert.FeatIdeal.nD Cert.FeatIdeal.τ Cert.FeatIdeal.sig) → Buf (Elt Ideal) ℓ) (g : Dev Cert.FeatIdeal.nD → PrngReg), Pre_FeatIdeal m →
    θ_run (Cert.FeatIdeal.defs (F := Ideal)) (onTc (τ := Cert.FeatIdeal.τ) (Cert.FeatIdeal.main (F := Ideal))) ⟨m, fun _ => 0, g⟩ (fun r => (∀ c : Dev Cert.FeatIdeal.nD,
      r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
      ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
      ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
      ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
      ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4)
      ∧ r.2.mem ((c.tc : Thread Cert.FeatIdeal.nD Cert.FeatIdeal.τ).loc Cert.FeatIdeal.main_arg5) = m ((c.tc : Thread Cert.FeatIdeal.nD Cert.FeatIdeal.τ).loc Cert.FeatIdeal.main_arg5)
      ∧ r.2.mem ((c.tc : Thread Cert.FeatIdeal.nD Cert.FeatIdeal.τ).loc Cert.FeatIdeal.main_arg6) = m ((c.tc : Thread Cert.FeatIdeal.nD Cert.FeatIdeal.τ).loc Cert.FeatIdeal.main_arg6)
      ∧ r.2.mem ((c.tc : Thread Cert.FeatIdeal.nD Cert.FeatIdeal.τ).loc Cert.FeatIdeal.main_arg7) = m ((c.tc : Thread Cert.FeatIdeal.nD Cert.FeatIdeal.τ).loc Cert.FeatIdeal.main_arg7)
      ∧ r.2.mem ((c.tc : Thread Cert.FeatIdeal.nD Cert.FeatIdeal.τ).loc Cert.FeatIdeal.main_arg8) = m ((c.tc : Thread Cert.FeatIdeal.nD Cert.FeatIdeal.τ).loc Cert.FeatIdeal.main_arg8)
      ∧ r.2.mem ((c.tc : Thread Cert.FeatIdeal.nD Cert.FeatIdeal.τ).loc Cert.FeatIdeal.main_arg9) = m ((c.tc : Thread Cert.FeatIdeal.nD Cert.FeatIdeal.τ).loc Cert.FeatIdeal.main_arg9))
      ∧ r.2.sem = fun _ => 0)

def quiescent_FeatRefIdeal [hFeatRefIdeal : Cert.FeatRefIdeal.Facts] : Prop :=
  ∀ (m : (ℓ : Loc Cert.FeatRefIdeal.nD Cert.FeatRefIdeal.τ Cert.FeatRefIdeal.sig) → Buf (Elt Ideal) ℓ) (g : Dev Cert.FeatRefIdeal.nD → PrngReg), Pre_FeatRefIdeal m →
    θ_run (Cert.FeatRefIdeal.defs (F := Ideal)) (onTc (τ := Cert.FeatRefIdeal.τ) (Cert.FeatRefIdeal.main (F := Ideal))) ⟨m, fun _ => 0, g⟩ (fun r => (∀ c : Dev Cert.FeatRefIdeal.nD,
      r.2.mem ((c.tc : Thread Cert.FeatRefIdeal.nD Cert.FeatRefIdeal.τ).loc Cert.FeatRefIdeal.main_arg0) = m ((c.tc : Thread Cert.FeatRefIdeal.nD Cert.FeatRefIdeal.τ).loc Cert.FeatRefIdeal.main_arg0)
      ∧ r.2.mem ((c.tc : Thread Cert.FeatRefIdeal.nD Cert.FeatRefIdeal.τ).loc Cert.FeatRefIdeal.main_arg1) = m ((c.tc : Thread Cert.FeatRefIdeal.nD Cert.FeatRefIdeal.τ).loc Cert.FeatRefIdeal.main_arg1)
      ∧ r.2.mem ((c.tc : Thread Cert.FeatRefIdeal.nD Cert.FeatRefIdeal.τ).loc Cert.FeatRefIdeal.main_arg2) = m ((c.tc : Thread Cert.FeatRefIdeal.nD Cert.FeatRefIdeal.τ).loc Cert.FeatRefIdeal.main_arg2)
      ∧ r.2.mem ((c.tc : Thread Cert.FeatRefIdeal.nD Cert.FeatRefIdeal.τ).loc Cert.FeatRefIdeal.main_arg3) = m ((c.tc : Thread Cert.FeatRefIdeal.nD Cert.FeatRefIdeal.τ).loc Cert.FeatRefIdeal.main_arg3)
      ∧ r.2.mem ((c.tc : Thread Cert.FeatRefIdeal.nD Cert.FeatRefIdeal.τ).loc Cert.FeatRefIdeal.main_arg4) = m ((c.tc : Thread Cert.FeatRefIdeal.nD Cert.FeatRefIdeal.τ).loc Cert.FeatRefIdeal.main_arg4)
      ∧ r.2.mem ((c.tc : Thread Cert.FeatRefIdeal.nD Cert.FeatRefIdeal.τ).loc Cert.FeatRefIdeal.main_arg5) = m ((c.tc : Thread Cert.FeatRefIdeal.nD Cert.FeatRefIdeal.τ).loc Cert.FeatRefIdeal.main_arg5)
      ∧ r.2.mem ((c.tc : Thread Cert.FeatRefIdeal.nD Cert.FeatRefIdeal.τ).loc Cert.FeatRefIdeal.main_arg6) = m ((c.tc : Thread Cert.FeatRefIdeal.nD Cert.FeatRefIdeal.τ).loc Cert.FeatRefIdeal.main_arg6)
      ∧ r.2.mem ((c.tc : Thread Cert.FeatRefIdeal.nD Cert.FeatRefIdeal.τ).loc Cert.FeatRefIdeal.main_arg7) = m ((c.tc : Thread Cert.FeatRefIdeal.nD Cert.FeatRefIdeal.τ).loc Cert.FeatRefIdeal.main_arg7)
      ∧ r.2.mem ((c.tc : Thread Cert.FeatRefIdeal.nD Cert.FeatRefIdeal.τ).loc Cert.FeatRefIdeal.main_arg8) = m ((c.tc : Thread Cert.FeatRefIdeal.nD Cert.FeatRefIdeal.τ).loc Cert.FeatRefIdeal.main_arg8)
      ∧ r.2.mem ((c.tc : Thread Cert.FeatRefIdeal.nD Cert.FeatRefIdeal.τ).loc Cert.FeatRefIdeal.main_arg9) = m ((c.tc : Thread Cert.FeatRefIdeal.nD Cert.FeatRefIdeal.τ).loc Cert.FeatRefIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Rw_RwIdeal : Prop :=
  True

def algebraic_RwIdeal_RwRefIdeal [hRwIdeal : Cert.RwIdeal.Facts] [hRwRefIdeal : Cert.RwRefIdeal.Facts] : Prop :=
  ∀ (m : (ℓ : Loc Cert.RwIdeal.nD Cert.RwIdeal.τ Cert.RwIdeal.sig) → Buf (Elt Ideal) ℓ) (g : Dev Cert.RwIdeal.nD → PrngReg)
    (m' : (ℓ : Loc Cert.RwRefIdeal.nD Cert.RwRefIdeal.τ Cert.RwRefIdeal.sig) → Buf (Elt Ideal) ℓ) (g' : Dev Cert.RwRefIdeal.nD → PrngReg), Pre_RwIdeal m →
    (∀ c : Dev Cert.RwIdeal.nD,
      m' ((c.tc : Thread Cert.RwRefIdeal.nD Cert.RwRefIdeal.τ).loc Cert.RwRefIdeal.main_arg0) = m ((c.tc : Thread Cert.RwIdeal.nD Cert.RwIdeal.τ).loc Cert.RwIdeal.main_arg0)
      ∧ m' ((c.tc : Thread Cert.RwRefIdeal.nD Cert.RwRefIdeal.τ).loc Cert.RwRefIdeal.main_arg1) = m ((c.tc : Thread Cert.RwIdeal.nD Cert.RwIdeal.τ).loc Cert.RwIdeal.main_arg1)) →
    ∃ (v0 : (c : Dev Cert.RwIdeal.nD) → Buf (Elt Ideal) ((c.tc : Thread Cert.RwIdeal.nD Cert.RwIdeal.τ).loc Cert.RwIdeal.main_v4)),
      θ_run (Cert.RwIdeal.defs (F := Ideal)) (onTc (τ := Cert.RwIdeal.τ) (Cert.RwIdeal.main (F := Ideal))) ⟨m, fun _ => 0, g⟩ (fun r => ∀ c : Dev Cert.RwIdeal.nD,
          r.2.mem ((c.tc : Thread Cert.RwIdeal.nD Cert.RwIdeal.τ).loc Cert.RwIdeal.main_v4) = v0 c
          ∧ r.2.mem ((c.tc : Thread Cert.RwIdeal.nD Cert.RwIdeal.τ).loc Cert.RwIdeal.main_arg0) = m ((c.tc : Thread Cert.RwIdeal.nD Cert.RwIdeal.τ).loc Cert.RwIdeal.main_arg0)
          ∧ r.2.mem ((c.tc : Thread Cert.RwIdeal.nD Cert.RwIdeal.τ).loc Cert.RwIdeal.main_arg1) = m ((c.tc : Thread Cert.RwIdeal.nD Cert.RwIdeal.τ).loc Cert.RwIdeal.main_arg1))
      ∧ θ_run (Cert.RwRefIdeal.defs (F := Ideal)) (onTc (τ := Cert.RwRefIdeal.τ) (Cert.RwRefIdeal.main (F := Ideal))) ⟨m', fun _ => 0, g'⟩ (fun r => ∀ c : Dev Cert.RwRefIdeal.nD,
          r.2.mem ((c.tc : Thread Cert.RwRefIdeal.nD Cert.RwRefIdeal.τ).loc Cert.RwRefIdeal.main_v5) = v0 c
          ∧ r.2.mem ((c.tc : Thread Cert.RwRefIdeal.nD Cert.RwRefIdeal.τ).loc Cert.RwRefIdeal.main_arg0) = m' ((c.tc : Thread Cert.RwRefIdeal.nD Cert.RwRefIdeal.τ).loc Cert.RwRefIdeal.main_arg0)
          ∧ r.2.mem ((c.tc : Thread Cert.RwRefIdeal.nD Cert.RwRefIdeal.τ).loc Cert.RwRefIdeal.main_arg1) = m' ((c.tc : Thread Cert.RwRefIdeal.nD Cert.RwRefIdeal.τ).loc Cert.RwRefIdeal.main_arg1))

def preserves_Val_ValIdeal : Prop :=
  True

def algebraic_ValIdeal_ValRefIdeal [hValIdeal : Cert.ValIdeal.Facts] [hValRefIdeal : Cert.ValRefIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)) →
    ∃ (v0 : (c : Dev Cert.ValIdeal.nD) → Buf (Elt Ideal) ((c.tc : Thread Cert.ValIdeal.nD Cert.ValIdeal.τ).loc Cert.ValIdeal.main_v3)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v3) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v4) = v0 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v7)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v7) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v9) = v0 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v5)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v5) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v29) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Key_KeyIdeal : Prop :=
  True

def algebraic_KeyIdeal_KeyRefIdeal [hKeyIdeal : Cert.KeyIdeal.Facts] [hKeyRefIdeal : Cert.KeyRefIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyRefIdeal.nD Cert.KeyRefIdeal.τ Cert.KeyRefIdeal.sig) → Buf (Elt Ideal) ℓ) (g' : Dev Cert.KeyRefIdeal.nD → PrngReg), Pre_KeyIdeal m →
    (∀ c : Dev Cert.KeyIdeal.nD,
      m' ((c.tc : Thread Cert.KeyRefIdeal.nD Cert.KeyRefIdeal.τ).loc Cert.KeyRefIdeal.main_arg0) = m ((c.tc : Thread Cert.KeyIdeal.nD Cert.KeyIdeal.τ).loc Cert.KeyIdeal.main_arg0)
      ∧ m' ((c.tc : Thread Cert.KeyRefIdeal.nD Cert.KeyRefIdeal.τ).loc Cert.KeyRefIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v51)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v51) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyRefIdeal.defs (F := Ideal)) (onTc (τ := Cert.KeyRefIdeal.τ) (Cert.KeyRefIdeal.main (F := Ideal))) ⟨m', fun _ => 0, g'⟩ (fun r => ∀ c : Dev Cert.KeyRefIdeal.nD,
          r.2.mem ((c.tc : Thread Cert.KeyRefIdeal.nD Cert.KeyRefIdeal.τ).loc Cert.KeyRefIdeal.main_v49) = v0 c
          ∧ r.2.mem ((c.tc : Thread Cert.KeyRefIdeal.nD Cert.KeyRefIdeal.τ).loc Cert.KeyRefIdeal.main_arg0) = m' ((c.tc : Thread Cert.KeyRefIdeal.nD Cert.KeyRefIdeal.τ).loc Cert.KeyRefIdeal.main_arg0)
          ∧ r.2.mem ((c.tc : Thread Cert.KeyRefIdeal.nD Cert.KeyRefIdeal.τ).loc Cert.KeyRefIdeal.main_arg1) = m' ((c.tc : Thread Cert.KeyRefIdeal.nD Cert.KeyRefIdeal.τ).loc Cert.KeyRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v51)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v51) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v51) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Feat_FeatIdeal : Prop :=
  True

def algebraic_FeatIdeal_FeatRefIdeal [hFeatIdeal : Cert.FeatIdeal.Facts] [hFeatRefIdeal : Cert.FeatRefIdeal.Facts] : Prop :=
  ∀ (m : (ℓ : Loc Cert.FeatIdeal.nD Cert.FeatIdeal.τ Cert.FeatIdeal.sig) → Buf (Elt Ideal) ℓ) (g : Dev Cert.FeatIdeal.nD → PrngReg)
    (m' : (ℓ : Loc Cert.FeatRefIdeal.nD Cert.FeatRefIdeal.τ Cert.FeatRefIdeal.sig) → Buf (Elt Ideal) ℓ) (g' : Dev Cert.FeatRefIdeal.nD → PrngReg), Pre_FeatIdeal m →
    (∀ c : Dev Cert.FeatIdeal.nD,
      m' ((c.tc : Thread Cert.FeatRefIdeal.nD Cert.FeatRefIdeal.τ).loc Cert.FeatRefIdeal.main_arg0) = m ((c.tc : Thread Cert.FeatIdeal.nD Cert.FeatIdeal.τ).loc Cert.FeatIdeal.main_arg0)
      ∧ m' ((c.tc : Thread Cert.FeatRefIdeal.nD Cert.FeatRefIdeal.τ).loc Cert.FeatRefIdeal.main_arg1) = m ((c.tc : Thread Cert.FeatIdeal.nD Cert.FeatIdeal.τ).loc Cert.FeatIdeal.main_arg1)
      ∧ m' ((c.tc : Thread Cert.FeatRefIdeal.nD Cert.FeatRefIdeal.τ).loc Cert.FeatRefIdeal.main_arg2) = m ((c.tc : Thread Cert.FeatIdeal.nD Cert.FeatIdeal.τ).loc Cert.FeatIdeal.main_arg2)
      ∧ m' ((c.tc : Thread Cert.FeatRefIdeal.nD Cert.FeatRefIdeal.τ).loc Cert.FeatRefIdeal.main_arg3) = m ((c.tc : Thread Cert.FeatIdeal.nD Cert.FeatIdeal.τ).loc Cert.FeatIdeal.main_arg3)
      ∧ m' ((c.tc : Thread Cert.FeatRefIdeal.nD Cert.FeatRefIdeal.τ).loc Cert.FeatRefIdeal.main_arg4) = m ((c.tc : Thread Cert.FeatIdeal.nD Cert.FeatIdeal.τ).loc Cert.FeatIdeal.main_arg4)
      ∧ m' ((c.tc : Thread Cert.FeatRefIdeal.nD Cert.FeatRefIdeal.τ).loc Cert.FeatRefIdeal.main_arg5) = m ((c.tc : Thread Cert.FeatIdeal.nD Cert.FeatIdeal.τ).loc Cert.FeatIdeal.main_arg5)
      ∧ m' ((c.tc : Thread Cert.FeatRefIdeal.nD Cert.FeatRefIdeal.τ).loc Cert.FeatRefIdeal.main_arg6) = m ((c.tc : Thread Cert.FeatIdeal.nD Cert.FeatIdeal.τ).loc Cert.FeatIdeal.main_arg6)
      ∧ m' ((c.tc : Thread Cert.FeatRefIdeal.nD Cert.FeatRefIdeal.τ).loc Cert.FeatRefIdeal.main_arg7) = m ((c.tc : Thread Cert.FeatIdeal.nD Cert.FeatIdeal.τ).loc Cert.FeatIdeal.main_arg7)
      ∧ m' ((c.tc : Thread Cert.FeatRefIdeal.nD Cert.FeatRefIdeal.τ).loc Cert.FeatRefIdeal.main_arg8) = m ((c.tc : Thread Cert.FeatIdeal.nD Cert.FeatIdeal.τ).loc Cert.FeatIdeal.main_arg8)
      ∧ m' ((c.tc : Thread Cert.FeatRefIdeal.nD Cert.FeatRefIdeal.τ).loc Cert.FeatRefIdeal.main_arg9) = m ((c.tc : Thread Cert.FeatIdeal.nD Cert.FeatIdeal.τ).loc Cert.FeatIdeal.main_arg9)) →
    ∃ (v0 : (c : Dev Cert.FeatIdeal.nD) → Buf (Elt Ideal) ((c.tc : Thread Cert.FeatIdeal.nD Cert.FeatIdeal.τ).loc Cert.FeatIdeal.main_v11_0)) (v1 : (c : Dev Cert.FeatIdeal.nD) → Buf (Elt Ideal) ((c.tc : Thread Cert.FeatIdeal.nD Cert.FeatIdeal.τ).loc Cert.FeatIdeal.main_v11_1)) (v2 : (c : Dev Cert.FeatIdeal.nD) → Buf (Elt Ideal) ((c.tc : Thread Cert.FeatIdeal.nD Cert.FeatIdeal.τ).loc Cert.FeatIdeal.main_v11_3)) (v3 : (c : Dev Cert.FeatIdeal.nD) → Buf (Elt Ideal) ((c.tc : Thread Cert.FeatIdeal.nD Cert.FeatIdeal.τ).loc Cert.FeatIdeal.main_v11_4)) (v4 : (c : Dev Cert.FeatIdeal.nD) → Buf (Elt Ideal) ((c.tc : Thread Cert.FeatIdeal.nD Cert.FeatIdeal.τ).loc Cert.FeatIdeal.main_v11_7)) (v5 : (c : Dev Cert.FeatIdeal.nD) → Buf (Elt Ideal) ((c.tc : Thread Cert.FeatIdeal.nD Cert.FeatIdeal.τ).loc Cert.FeatIdeal.main_v11_8)) (v6 : (c : Dev Cert.FeatIdeal.nD) → Buf (Elt Ideal) ((c.tc : Thread Cert.FeatIdeal.nD Cert.FeatIdeal.τ).loc Cert.FeatIdeal.main_v11_10)),
      θ_run (Cert.FeatIdeal.defs (F := Ideal)) (onTc (τ := Cert.FeatIdeal.τ) (Cert.FeatIdeal.main (F := Ideal))) ⟨m, fun _ => 0, g⟩ (fun r => ∀ c : Dev Cert.FeatIdeal.nD,
          r.2.mem ((c.tc : Thread Cert.FeatIdeal.nD Cert.FeatIdeal.τ).loc Cert.FeatIdeal.main_v11_0) = v0 c
          ∧ r.2.mem ((c.tc : Thread Cert.FeatIdeal.nD Cert.FeatIdeal.τ).loc Cert.FeatIdeal.main_v11_1) = v1 c
          ∧ r.2.mem ((c.tc : Thread Cert.FeatIdeal.nD Cert.FeatIdeal.τ).loc Cert.FeatIdeal.main_v11_3) = v2 c
          ∧ r.2.mem ((c.tc : Thread Cert.FeatIdeal.nD Cert.FeatIdeal.τ).loc Cert.FeatIdeal.main_v11_4) = v3 c
          ∧ r.2.mem ((c.tc : Thread Cert.FeatIdeal.nD Cert.FeatIdeal.τ).loc Cert.FeatIdeal.main_v11_7) = v4 c
          ∧ r.2.mem ((c.tc : Thread Cert.FeatIdeal.nD Cert.FeatIdeal.τ).loc Cert.FeatIdeal.main_v11_8) = v5 c
          ∧ r.2.mem ((c.tc : Thread Cert.FeatIdeal.nD Cert.FeatIdeal.τ).loc Cert.FeatIdeal.main_v11_10) = v6 c
          ∧ r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
          ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
          ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
          ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
          ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4)
          ∧ r.2.mem ((c.tc : Thread Cert.FeatIdeal.nD Cert.FeatIdeal.τ).loc Cert.FeatIdeal.main_arg5) = m ((c.tc : Thread Cert.FeatIdeal.nD Cert.FeatIdeal.τ).loc Cert.FeatIdeal.main_arg5)
          ∧ r.2.mem ((c.tc : Thread Cert.FeatIdeal.nD Cert.FeatIdeal.τ).loc Cert.FeatIdeal.main_arg6) = m ((c.tc : Thread Cert.FeatIdeal.nD Cert.FeatIdeal.τ).loc Cert.FeatIdeal.main_arg6)
          ∧ r.2.mem ((c.tc : Thread Cert.FeatIdeal.nD Cert.FeatIdeal.τ).loc Cert.FeatIdeal.main_arg7) = m ((c.tc : Thread Cert.FeatIdeal.nD Cert.FeatIdeal.τ).loc Cert.FeatIdeal.main_arg7)
          ∧ r.2.mem ((c.tc : Thread Cert.FeatIdeal.nD Cert.FeatIdeal.τ).loc Cert.FeatIdeal.main_arg8) = m ((c.tc : Thread Cert.FeatIdeal.nD Cert.FeatIdeal.τ).loc Cert.FeatIdeal.main_arg8)
          ∧ r.2.mem ((c.tc : Thread Cert.FeatIdeal.nD Cert.FeatIdeal.τ).loc Cert.FeatIdeal.main_arg9) = m ((c.tc : Thread Cert.FeatIdeal.nD Cert.FeatIdeal.τ).loc Cert.FeatIdeal.main_arg9))
      ∧ θ_run (Cert.FeatRefIdeal.defs (F := Ideal)) (onTc (τ := Cert.FeatRefIdeal.τ) (Cert.FeatRefIdeal.main (F := Ideal))) ⟨m', fun _ => 0, g'⟩ (fun r => ∀ c : Dev Cert.FeatRefIdeal.nD,
          r.2.mem ((c.tc : Thread Cert.FeatRefIdeal.nD Cert.FeatRefIdeal.τ).loc Cert.FeatRefIdeal.main_v133) = v0 c
          ∧ r.2.mem ((c.tc : Thread Cert.FeatRefIdeal.nD Cert.FeatRefIdeal.τ).loc Cert.FeatRefIdeal.main_v134) = v1 c
          ∧ r.2.mem ((c.tc : Thread Cert.FeatRefIdeal.nD Cert.FeatRefIdeal.τ).loc Cert.FeatRefIdeal.main_v64) = v2 c
          ∧ r.2.mem ((c.tc : Thread Cert.FeatRefIdeal.nD Cert.FeatRefIdeal.τ).loc Cert.FeatRefIdeal.main_v102) = v3 c
          ∧ r.2.mem ((c.tc : Thread Cert.FeatRefIdeal.nD Cert.FeatRefIdeal.τ).loc Cert.FeatRefIdeal.main_v135) = v4 c
          ∧ r.2.mem ((c.tc : Thread Cert.FeatRefIdeal.nD Cert.FeatRefIdeal.τ).loc Cert.FeatRefIdeal.main_v136) = v5 c
          ∧ r.2.mem ((c.tc : Thread Cert.FeatRefIdeal.nD Cert.FeatRefIdeal.τ).loc Cert.FeatRefIdeal.main_v137) = v6 c
          ∧ r.2.mem ((c.tc : Thread Cert.FeatRefIdeal.nD Cert.FeatRefIdeal.τ).loc Cert.FeatRefIdeal.main_arg0) = m' ((c.tc : Thread Cert.FeatRefIdeal.nD Cert.FeatRefIdeal.τ).loc Cert.FeatRefIdeal.main_arg0)
          ∧ r.2.mem ((c.tc : Thread Cert.FeatRefIdeal.nD Cert.FeatRefIdeal.τ).loc Cert.FeatRefIdeal.main_arg1) = m' ((c.tc : Thread Cert.FeatRefIdeal.nD Cert.FeatRefIdeal.τ).loc Cert.FeatRefIdeal.main_arg1)
          ∧ r.2.mem ((c.tc : Thread Cert.FeatRefIdeal.nD Cert.FeatRefIdeal.τ).loc Cert.FeatRefIdeal.main_arg2) = m' ((c.tc : Thread Cert.FeatRefIdeal.nD Cert.FeatRefIdeal.τ).loc Cert.FeatRefIdeal.main_arg2)
          ∧ r.2.mem ((c.tc : Thread Cert.FeatRefIdeal.nD Cert.FeatRefIdeal.τ).loc Cert.FeatRefIdeal.main_arg3) = m' ((c.tc : Thread Cert.FeatRefIdeal.nD Cert.FeatRefIdeal.τ).loc Cert.FeatRefIdeal.main_arg3)
          ∧ r.2.mem ((c.tc : Thread Cert.FeatRefIdeal.nD Cert.FeatRefIdeal.τ).loc Cert.FeatRefIdeal.main_arg4) = m' ((c.tc : Thread Cert.FeatRefIdeal.nD Cert.FeatRefIdeal.τ).loc Cert.FeatRefIdeal.main_arg4)
          ∧ r.2.mem ((c.tc : Thread Cert.FeatRefIdeal.nD Cert.FeatRefIdeal.τ).loc Cert.FeatRefIdeal.main_arg5) = m' ((c.tc : Thread Cert.FeatRefIdeal.nD Cert.FeatRefIdeal.τ).loc Cert.FeatRefIdeal.main_arg5)
          ∧ r.2.mem ((c.tc : Thread Cert.FeatRefIdeal.nD Cert.FeatRefIdeal.τ).loc Cert.FeatRefIdeal.main_arg6) = m' ((c.tc : Thread Cert.FeatRefIdeal.nD Cert.FeatRefIdeal.τ).loc Cert.FeatRefIdeal.main_arg6)
          ∧ r.2.mem ((c.tc : Thread Cert.FeatRefIdeal.nD Cert.FeatRefIdeal.τ).loc Cert.FeatRefIdeal.main_arg7) = m' ((c.tc : Thread Cert.FeatRefIdeal.nD Cert.FeatRefIdeal.τ).loc Cert.FeatRefIdeal.main_arg7)
          ∧ r.2.mem ((c.tc : Thread Cert.FeatRefIdeal.nD Cert.FeatRefIdeal.τ).loc Cert.FeatRefIdeal.main_arg8) = m' ((c.tc : Thread Cert.FeatRefIdeal.nD Cert.FeatRefIdeal.τ).loc Cert.FeatRefIdeal.main_arg8)
          ∧ r.2.mem ((c.tc : Thread Cert.FeatRefIdeal.nD Cert.FeatRefIdeal.τ).loc Cert.FeatRefIdeal.main_arg9) = m' ((c.tc : Thread Cert.FeatRefIdeal.nD Cert.FeatRefIdeal.τ).loc Cert.FeatRefIdeal.main_arg9))

def Claim : Prop :=
  ∃ (hKernel : Cert.Kernel.Facts) (hKernelIdeal : Cert.KernelIdeal.Facts) (hReferenceIdeal : Cert.ReferenceIdeal.Facts) (hRw : Cert.Rw.Facts) (hRwIdeal : Cert.RwIdeal.Facts) (hRwRefIdeal : Cert.RwRefIdeal.Facts) (hVal : Cert.Val.Facts) (hValIdeal : Cert.ValIdeal.Facts) (hValRefIdeal : Cert.ValRefIdeal.Facts) (hOut : Cert.Out.Facts) (hOutIdeal : Cert.OutIdeal.Facts) (hOutRefIdeal : Cert.OutRefIdeal.Facts) (hShared : Cert.Shared.Facts) (hSharedIdeal : Cert.SharedIdeal.Facts) (hSharedRefIdeal : Cert.SharedRefIdeal.Facts) (hCombine : Cert.Combine.Facts) (hCombineIdeal : Cert.CombineIdeal.Facts) (hCombineRefIdeal : Cert.CombineRefIdeal.Facts) (hKey : Cert.Key.Facts) (hKeyIdeal : Cert.KeyIdeal.Facts) (hKeyRefIdeal : Cert.KeyRefIdeal.Facts) (hQuery : Cert.Query.Facts) (hQueryIdeal : Cert.QueryIdeal.Facts) (hQueryRefIdeal : Cert.QueryRefIdeal.Facts) (hFeat : Cert.Feat.Facts) (hFeatIdeal : Cert.FeatIdeal.Facts) (hFeatRefIdeal : Cert.FeatRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Rw (hRw := hRw)
    ∧ quiescent_RwIdeal (hRwIdeal := hRwIdeal)
    ∧ quiescent_RwRefIdeal (hRwRefIdeal := hRwRefIdeal)
    ∧ quiescent_Val (hVal := hVal)
    ∧ quiescent_ValIdeal (hValIdeal := hValIdeal)
    ∧ quiescent_ValRefIdeal (hValRefIdeal := hValRefIdeal)
    ∧ quiescent_Out (hOut := hOut)
    ∧ quiescent_OutIdeal (hOutIdeal := hOutIdeal)
    ∧ quiescent_OutRefIdeal (hOutRefIdeal := hOutRefIdeal)
    ∧ quiescent_Shared (hShared := hShared)
    ∧ quiescent_SharedIdeal (hSharedIdeal := hSharedIdeal)
    ∧ quiescent_SharedRefIdeal (hSharedRefIdeal := hSharedRefIdeal)
    ∧ quiescent_Combine (hCombine := hCombine)
    ∧ quiescent_CombineIdeal (hCombineIdeal := hCombineIdeal)
    ∧ quiescent_CombineRefIdeal (hCombineRefIdeal := hCombineRefIdeal)
    ∧ quiescent_Key (hKey := hKey)
    ∧ quiescent_KeyIdeal (hKeyIdeal := hKeyIdeal)
    ∧ quiescent_KeyRefIdeal (hKeyRefIdeal := hKeyRefIdeal)
    ∧ quiescent_Query (hQuery := hQuery)
    ∧ quiescent_QueryIdeal (hQueryIdeal := hQueryIdeal)
    ∧ quiescent_QueryRefIdeal (hQueryRefIdeal := hQueryRefIdeal)
    ∧ quiescent_Feat (hFeat := hFeat)
    ∧ quiescent_FeatIdeal (hFeatIdeal := hFeatIdeal)
    ∧ quiescent_FeatRefIdeal (hFeatRefIdeal := hFeatRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Rw_RwIdeal
    ∧ algebraic_RwIdeal_RwRefIdeal (hRwIdeal := hRwIdeal) (hRwRefIdeal := hRwRefIdeal)
    ∧ preserves_Val_ValIdeal
    ∧ algebraic_ValIdeal_ValRefIdeal (hValIdeal := hValIdeal) (hValRefIdeal := hValRefIdeal)
    ∧ preserves_Out_OutIdeal
    ∧ algebraic_OutIdeal_OutRefIdeal (hOutIdeal := hOutIdeal) (hOutRefIdeal := hOutRefIdeal)
    ∧ preserves_Shared_SharedIdeal
    ∧ algebraic_SharedIdeal_SharedRefIdeal (hSharedIdeal := hSharedIdeal) (hSharedRefIdeal := hSharedRefIdeal)
    ∧ preserves_Combine_CombineIdeal
    ∧ algebraic_CombineIdeal_CombineRefIdeal (hCombineIdeal := hCombineIdeal) (hCombineRefIdeal := hCombineRefIdeal)
    ∧ preserves_Key_KeyIdeal
    ∧ algebraic_KeyIdeal_KeyRefIdeal (hKeyIdeal := hKeyIdeal) (hKeyRefIdeal := hKeyRefIdeal)
    ∧ preserves_Query_QueryIdeal
    ∧ algebraic_QueryIdeal_QueryRefIdeal (hQueryIdeal := hQueryIdeal) (hQueryRefIdeal := hQueryRefIdeal)
    ∧ preserves_Feat_FeatIdeal
    ∧ algebraic_FeatIdeal_FeatRefIdeal (hFeatIdeal := hFeatIdeal) (hFeatRefIdeal := hFeatRefIdeal)
-- ==== Pre_finite.lean ====
abbrev S4x4352x2048 : Shape := ⟨3, ![4, 4352, 2048]⟩
abbrev S1x4x128 : Shape := ⟨3, ![1, 4, 128]⟩
abbrev S1x256 : Shape := ⟨2, ![1, 256]⟩
abbrev S_ : Shape := ⟨0, ![]⟩

class Facts : Prop where
  bitsLt_bf16_f32 : FTy.bits .bf16 < FTy.bits .f32
  bcast_S_S4x4352x2048 : S_.BroadcastsInDim S4x4352x2048 (![] : Fin 0 → Fin S4x4352x2048.rank)
  reducesTo_S4x4352x2048_S_d0_1_2 : S4x4352x2048.ReducesTo [0, 1, 2] S_
  h_S_ : 0 < S_.numel
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_v16 : IVec S_ 1) (main_v17 : FVec F S1x4x128 .f32) : IVec S_ 1 :=
  let main_cst_4 : FVec F S_ .f32 := constant S_ .f32 0x7F800000#32
  let main_v18 : FVec F S1x4x128 .f32 := broadcastInDim S1x4x128 ![] bcast_S_S1x4x128 main_cst_4
  let main_v19 : IVec S1x4x128 1 := cmpf .olt main_v17 main_v18
  let main_c_5 : IVec S_ 1 := constantI S_ 1 1#1
  let main_v20 : IVec S_ 1 := (fun x v => Host.reduce IntOp.andi x v reducesTo_S1x4x128_S_d0_1_2 h_S_) main_v19 main_c_5
  let main_v21 : IVec S_ 1 := andi main_v16 main_v20
  main_v21

def fn {F : FTy → Type} [FloatOps F] (main_arg0 : FVec F S4x4352x2048 .bf16) (main_arg1 : FVec F S4x4352x2048 .bf16) (main_arg2 : FVec F S4x4352x2048 .bf16) (main_arg3 : FVec F S1x4x128 .f32) (main_arg4 : FVec F S1x256 .f32) : IVec S_ 1 :=
  let main_v0 : FVec F S4x4352x2048 .f32 := (extf .f32 · bitsLt_bf16_f32) main_arg0
  let main_v1 : FVec F S4x4352x2048 .f32 := Host.absf main_v0
  let main_cst : FVec F S_ .f32 := constant S_ .f32 0x7F800000#32
  let main_v2 : FVec F S4x4352x2048 .f32 := broadcastInDim S4x4352x2048 ![] bcast_S_S4x4352x2048 main_cst
  let main_v3 : IVec S4x4352x2048 1 := cmpf .olt main_v1 main_v2
  let main_c : IVec S_ 1 := constantI S_ 1 1#1
  let main_v4 : IVec S_ 1 := (fun x v => Host.reduce IntOp.andi x v reducesTo_S4x4352x2048_S_d0_1_2 h_S_) main_v3 main_c
  let main_v5 : FVec F S4x4352x2048 .f32 := (extf .f32 · bitsLt_bf16_f32) main_arg1
  let main_v6 : FVec F S4x4352x2048 .f32 := Host.absf main_v5
  let main_cst_0 : FVec F S_ .f32 := constant S_ .f32 0x7F800000#32
  let main_v7 : FVec F S4x4352x2048 .f32 := broadcastInDim S4x4352x2048 ![] bcast_S_S4x4352x2048 main_cst_0
  let main_v8 : IVec S4x4352x2048 1 := cmpf .olt main_v6 main_v7
  let main_c_1 : IVec S_ 1 := constantI S_ 1 1#1
  let main_v9 : IVec S_ 1 := (fun x v => Host.reduce IntOp.andi x v reducesTo_S4x4352x2048_S_d0_1_2 h_S_) main_v8 main_c_1
  let main_v10 : IVec S_ 1 := andi main_v4 main_v9
  let main_v11 : FVec F S4x4352x2048 .f32 := (extf .f32 · bitsLt_bf16_f32) main_arg2
  let main_v12 : FVec F S4x4352x2048 .f32 := Host.absf main_v11
  let main_cst_2 : FVec F S_ .f32 := constant S_ .f32 0x7F800000#32
  let main_v13 : FVec F S4x4352x2048 .f32 := broadcastInDim S4x4352x2048 ![] bcast_S_S4x4352x2048 main_cst_2
  let main_v14 : IVec S4x4352x2048 1 := cmpf .olt main_v12 main_v13
  let main_c_3 : IVec S_ 1 := constantI S_ 1 1#1
  let main_v15 : IVec S_ 1 := (fun x v => Host.reduce IntOp.andi x v reducesTo_S4x4352x2048_S_d0_1_2 h_S_) main_v14 main_c_3
  let main_v16 : IVec S_ 1 := andi main_v10 main_v15
  let main_v17 : FVec F S1x4x128 .f32 := Host.absf main_arg3
  fn_part1 (F := F) main_v16 main_v17
-- ==== Kernel.lean ====
abbrev S4x4352x2048 : Shape := ⟨3, ![4, 4352, 2048]⟩
abbrev S1x4x128 : Shape := ⟨3, ![1, 4, 128]⟩
abbrev S1x256 : Shape := ⟨2, ![1, 256]⟩
abbrev S4x128 : Shape := ⟨2, ![4, 128]⟩
abbrev S1x128 : Shape := ⟨2, ![1, 128]⟩
abbrev S128 : Shape := ⟨1, ![128]⟩
abbrev S_ : Shape := ⟨0, ![]⟩
abbrev S1 : Shape := ⟨1, ![1]⟩
abbrev S256 : Shape := ⟨1, ![256]⟩
abbrev S4x4096x2048 : Shape := ⟨3, ![4, 4096, 2048]⟩
abbrev S1x256x256 : Shape := ⟨3, ![1, 256, 256]⟩
abbrev S1x4352x256 : Shape := ⟨3, ![1, 4352, 256]⟩
abbrev S256x256 : Shape := ⟨2, ![256, 256]⟩
abbrev S4352x256 : Shape := ⟨2, ![4352, 256]⟩
abbrev S256x128 : Shape := ⟨2, ![256, 128]⟩
abbrev S4352x128 : Shape := ⟨2, ![4352, 128]⟩
abbrev S256x4352 : Shape := ⟨2, ![256, 4352]⟩
abbrev S256x1 : Shape := ⟨2, ![256, 1]⟩

abbrev nBuf : Space → Nat
  | .hbm => 32
  | .vmem => 9
  | .smem => 1
  | _ => 0

abbrev bufTy : (tb : Table) → Fin (tcTables nBuf tb) → BufTy
  | .hbm, ⟨0, _⟩ => ⟨S4x4352x2048, .bf16⟩
  | .hbm, ⟨1, _⟩ => ⟨S4x4352x2048, .bf16⟩
  | .hbm, ⟨2, _⟩ => ⟨S4x4352x2048, .bf16⟩
  | .hbm, ⟨3, _⟩ => ⟨S1x4x128, .f32⟩
  | .hbm, ⟨4, _⟩ => ⟨S1x256, .f32⟩
  | .hbm, ⟨5, _⟩ => ⟨S4x128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S4x4096x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x256, .f32⟩
  | .local _ .vmem, ⟨7, _⟩ => ⟨S1x256x256, .bf16⟩
  | .local _ .vmem, ⟨8, _⟩ => ⟨S1x256x256, .bf16⟩
  | .local _ .smem, ⟨0, _⟩ => ⟨S1, .f32⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4352x2048 : Shape := ⟨3, ![4, 4352, 2048]⟩
abbrev S1x4x128 : Shape := ⟨3, ![1, 4, 128]⟩
abbrev S1x256 : Shape := ⟨2, ![1, 256]⟩
abbrev S4x128 : Shape := ⟨2, ![4, 128]⟩
abbrev S1x128 : Shape := ⟨2, ![1, 128]⟩
abbrev S128 : Shape := ⟨1, ![128]⟩
abbrev S_ : Shape := ⟨0, ![]⟩
abbrev S4x4096x2048 : Shape := ⟨3, ![4, 4096, 2048]⟩
abbrev S4x4096x8x2x128 : Shape := ⟨5, ![4, 4096, 8, 2, 128]⟩
abbrev S4x4352x8x2x128 : Shape := ⟨5, ![4, 4352, 8, 2, 128]⟩
abbrev S4x4352x8x256 : Shape := ⟨4, ![4, 4352, 8, 256]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x1x4096x4352 : Shape := ⟨5, ![4, 8, 1, 4096, 4352]⟩
abbrev S4x8x4096x4352 : Shape := ⟨4, ![4, 8, 4096, 4352]⟩
abbrev S4x8x256x4096 : Shape := ⟨4, ![4, 8, 256, 4096]⟩
abbrev S4x4096x8x256 : Shape := ⟨4, ![4, 4096, 8, 256]⟩
abbrev S4x4096x8 : Shape := ⟨3, ![4, 4096, 8]⟩
abbrev S4x4096x8x1 : Shape := ⟨4, ![4, 4096, 8, 1]⟩
abbrev S256 : Shape := ⟨1, ![256]⟩
abbrev S1x1x1x256 : Shape := ⟨4, ![1, 1, 1, 256]⟩

abbrev nBuf : Space → Nat
  | .hbm => 78
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S4x4352x2048, .bf16⟩
  | .hbm, ⟨2, _⟩ => ⟨S4x4352x2048, .bf16⟩
  | .hbm, ⟨3, _⟩ => ⟨S1x4x128, .f32⟩
  | .hbm, ⟨4, _⟩ => ⟨S1x256, .f32⟩
  | .hbm, ⟨5, _⟩ => ⟨S4x128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x2048, .bf16⟩
  | .hbm, ⟨26, _⟩ => ⟨S4x4096x2048, .f32⟩
  | .hbm, ⟨27, _⟩ => ⟨S4x4096x8x2x128, .f32⟩
  | .hbm, ⟨28, _⟩ => ⟨S4x4352x2048, .f32⟩
  | .hbm, ⟨29, _⟩ => ⟨S4x4352x8x2x128, .f32⟩
  | .hbm, ⟨30, _⟩ => ⟨S4x4352x2048, .f32⟩
  | .hbm, ⟨31, _⟩ => ⟨S4x4352x8x256, .f32⟩
  | .hbm, ⟨32, _⟩ => ⟨S4x8x2x4096x4352, .f32⟩
  | .hbm, ⟨33, _⟩ => ⟨S_, .f32⟩
  | .hbm, ⟨34, _⟩ => ⟨S4x8x2x4096, .f32⟩
  | .hbm, ⟨35, _⟩ => ⟨S_, .f32⟩
  | .hbm, ⟨36, _⟩ => ⟨S4x8x2x4096, .f32⟩
  | .hbm, ⟨37, _⟩ => ⟨S4x8x2x4096, .f32⟩
  | .hbm, ⟨38, _⟩ => ⟨S4x8x2x4096x1, .f32⟩
  | .hbm, ⟨39, _⟩ => ⟨S4x8x2x4096x4352, .f32⟩
  | .hbm, ⟨40, _⟩ => ⟨S4x8x2x4096x4352, .f32⟩
  | .hbm, ⟨41, _⟩ => ⟨S4x8x2x4096x4352, .f32⟩
  | .hbm, ⟨42, _⟩ => ⟨S_, .f32⟩
  | .hbm, ⟨43, _⟩ => ⟨S4x8x2x4096, .f32⟩
  | .hbm, ⟨44, _⟩ => ⟨S4x8x2x4096x1, .f32⟩
  | .hbm, ⟨45, _⟩ => ⟨S4x8x2x4096x4352, .f32⟩
  | .hbm, ⟨46, _⟩ => ⟨S4x8x2x4096x4352, .f32⟩
  | .hbm, ⟨47, _⟩ => ⟨S4x8x1x4096x4352, .f32⟩
  | .hbm, ⟨48, _⟩ => ⟨S4x8x4096x4352, .f32⟩
  | .hbm, ⟨49, _⟩ => ⟨S4x8x1x4096x4352, .f32⟩
  | .hbm, ⟨50, _⟩ => ⟨S4x8x4096x4352, .f32⟩
  | .hbm, ⟨51, _⟩ => ⟨S4x8x4096x4352, .f32⟩
  | .hbm, ⟨52, _⟩ => ⟨S4x8x4096x4352, .f32⟩
  | .hbm, ⟨53, _⟩ => ⟨S4x8x4096x4352, .f32⟩
  | .hbm, ⟨54, _⟩ => ⟨S4x8x256x4096, .f32⟩
  | .hbm, ⟨55, _⟩ => ⟨S4x4096x8x256, .f32⟩
  | .hbm, ⟨56, _⟩ => ⟨S4x4096x8x256, .f32⟩
  | .hbm, ⟨57, _⟩ => ⟨S_, .f32⟩
  | .hbm, ⟨58, _⟩ => ⟨S4x4096x8, .f32⟩
  | .hbm, ⟨59, _⟩ => ⟨S4x4096x8x1, .f32⟩
  | .hbm, ⟨60, _⟩ => ⟨S_, .f32⟩
  | .hbm, ⟨61, _⟩ => ⟨S4x4096x8x1, .f32⟩
  | .hbm, ⟨62, _⟩ => ⟨S4x4096x8x1, .f32⟩
  | .hbm, ⟨63, _⟩ => ⟨S_, .f32⟩
  | .hbm, ⟨64, _⟩ => ⟨S4x4096x8x1, .f32⟩
  | .hbm, ⟨65, _⟩ => ⟨S4x4096x8x1, .f32⟩
  | .hbm, ⟨66, _⟩ => ⟨S4x4096x8x1, .f32⟩
  | .hbm, ⟨67, _⟩ => ⟨S4x4096x8x256, .f32⟩
  | .hbm, ⟨68, _⟩ => ⟨S4x4096x8x256, .f32⟩
  | .hbm, ⟨69, _⟩ => ⟨S256, .f32⟩
  | .hbm, ⟨70, _⟩ => ⟨S1x1x1x256, .f32⟩
  | .hbm, ⟨71, _⟩ => ⟨S4x4096x8x256, .f32⟩
  | .hbm, ⟨72, _⟩ => ⟨S4x4096x8x256, .f32⟩
  | .hbm, ⟨73, _⟩ => ⟨S_, .f32⟩
  | .hbm, ⟨74, _⟩ => ⟨S4x4096x8x256, .f32⟩
  | .hbm, ⟨75, _⟩ => ⟨S4x4096x8x256, .f32⟩
  | .hbm, ⟨76, _⟩ => ⟨S4x4096x2048, .f32⟩
  | .hbm, ⟨77, _⟩ => ⟨S4x4096x2048, .bf16⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Rw.lean ====
abbrev S17408x4096 : Shape := ⟨2, ![17408, 4096]⟩
abbrev S1x4096x13024 : Shape := ⟨3, ![1, 4096, 13024]⟩
abbrev S4096x13024 : Shape := ⟨2, ![4096, 13024]⟩
abbrev S4096x6880 : Shape := ⟨2, ![4096, 6880]⟩
abbrev S_ : Shape := ⟨0, ![]⟩
abbrev S4096x6912 : Shape := ⟨2, ![4096, 6912]⟩
abbrev S17408x6912 : Shape := ⟨2, ![17408, 6912]⟩
abbrev S1024x4096 : Shape := ⟨2, ![1024, 4096]⟩
abbrev S4096x1152 : Shape := ⟨2, ![4096, 1152]⟩
abbrev S1024x1152 : Shape := ⟨2, ![1024, 1152]⟩

abbrev nBuf : Space → Nat
  | .hbm => 9
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S4096x13024, .f32⟩
  | .hbm, ⟨3, _⟩ => ⟨S4096x6880, .f32⟩
  | .hbm, ⟨4, _⟩ => ⟨S_, .i32⟩
  | .hbm, ⟨5, _⟩ => ⟨S_, .f32⟩
  | .hbm, ⟨6, _⟩ => ⟨S4096x6912, .f32⟩
  | .hbm, ⟨7, _⟩ => ⟨S4096x6912, .bf16⟩
  | .hbm, ⟨8, _⟩ => ⟨S17408x6912, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1152, .bf16⟩
  | .local _ .vmem, ⟨3, _⟩ => ⟨S4096x1152, .bf16⟩
  | .local _ .vmem, ⟨4, _⟩ => ⟨S1024x1152, .bf16⟩
  | .local _ .vmem, ⟨5, _⟩ => ⟨S1024x1152, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwRefIdeal.lean ====
abbrev S17408x4096 : Shape := ⟨2, ![17408, 4096]⟩
abbrev S1x4096x13024 : Shape := ⟨3, ![1, 4096, 13024]⟩
abbrev S4096x13024 : Shape := ⟨2, ![4096, 13024]⟩
abbrev S4096x6880 : Shape := ⟨2, ![4096, 6880]⟩
abbrev S17408x6880 : Shape := ⟨2, ![17408, 6880]⟩
abbrev S_ : Shape := ⟨0, ![]⟩
abbrev S17408x6912 : Shape := ⟨2, ![17408, 6912]⟩

abbrev nBuf : Space → Nat
  | .hbm => 10
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S17408x4096, .f32⟩
  | .hbm, ⟨3, _⟩ => ⟨S4096x13024, .f32⟩
  | .hbm, ⟨4, _⟩ => ⟨S4096x6880, .f32⟩
  | .hbm, ⟨5, _⟩ => ⟨S17408x6880, .f32⟩
  | .hbm, ⟨6, _⟩ => ⟨S_, .i32⟩
  | .hbm, ⟨7, _⟩ => ⟨S_, .f32⟩
  | .hbm, ⟨8, _⟩ => ⟨S17408x6912, .f32⟩
  | .hbm, ⟨9, _⟩ => ⟨S17408x6912, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Val.lean ====
abbrev S17408x4096 : Shape := ⟨2, ![17408, 4096]⟩
abbrev S1x4096x13024 : Shape := ⟨3, ![1, 4096, 13024]⟩
abbrev S4096x13024 : Shape := ⟨2, ![4096, 13024]⟩
abbrev S4096x2048 : Shape := ⟨2, ![4096, 2048]⟩
abbrev S17408x2048 : Shape := ⟨2, ![17408, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S4096x13024, .f32⟩
  | .hbm, ⟨3, _⟩ => ⟨S4096x2048, .f32⟩
  | .hbm, ⟨4, _⟩ => ⟨S4096x2048, .bf16⟩
  | .hbm, ⟨5, _⟩ => ⟨S17408x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValRefIdeal.lean ====
abbrev S17408x4096 : Shape := ⟨2, ![17408, 4096]⟩
abbrev S1x4096x13024 : Shape := ⟨3, ![1, 4096, 13024]⟩
abbrev S4096x13024 : Shape := ⟨2, ![4096, 13024]⟩
abbrev S4096x2048 : Shape := ⟨2, ![4096, 2048]⟩
abbrev S17408x2048 : Shape := ⟨2, ![17408, 2048]⟩

abbrev nBuf : Space → Nat
  | .hbm => 7
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S17408x4096, .f32⟩
  | .hbm, ⟨3, _⟩ => ⟨S4096x13024, .f32⟩
  | .hbm, ⟨4, _⟩ => ⟨S4096x2048, .f32⟩
  | .hbm, ⟨5, _⟩ => ⟨S17408x2048, .f32⟩
  | .hbm, ⟨6, _⟩ => ⟨S17408x2048, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S4x4096x2048 : Shape := ⟨3, ![4, 4096, 2048]⟩
abbrev S1x4096x4096 : Shape := ⟨3, ![1, 4096, 4096]⟩
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S1x4096x4096, .f32⟩
  | .hbm, ⟨3, _⟩ => ⟨S16384x2048, .bf16⟩
  | .hbm, ⟨4, _⟩ => ⟨S16384x2048, .bf16⟩
  | .hbm, ⟨5, _⟩ => ⟨S4096x4096, .f32⟩
  | .hbm, ⟨6, _⟩ => ⟨S4096x4096, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S4x4096x2048 : Shape := ⟨3, ![4, 4096, 2048]⟩
abbrev S1x4096x4096 : Shape := ⟨3, ![1, 4096, 4096]⟩
abbrev S4x4096x4096 : Shape := ⟨3, ![4, 4096, 4096]⟩
abbrev S4096x4096 : Shape := ⟨2, ![4096, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S1x4096x4096, .f32⟩
  | .hbm, ⟨3, _⟩ => ⟨S4x4096x2048, .f32⟩
  | .hbm, ⟨4, _⟩ => ⟨S4x4096x2048, .f32⟩
  | .hbm, ⟨5, _⟩ => ⟨S4x4096x4096, .f32⟩
  | .hbm, ⟨6, _⟩ => ⟨S4096x4096, .f32⟩
  | .hbm, ⟨7, _⟩ => ⟨S4x4096x4096, .f32⟩
  | .hbm, ⟨8, _⟩ => ⟨S16384x4096, .f32⟩
  | .hbm, ⟨9, _⟩ => ⟨S16384x4096, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Shared.lean ====
abbrev S4x4096x4096 : Shape := ⟨3, ![4, 4096, 4096]⟩
abbrev S1x4096x512 : Shape := ⟨3, ![1, 4096, 512]⟩
abbrev S1x512x4096 : Shape := ⟨3, ![1, 512, 4096]⟩
abbrev S16384x4096 : Shape := ⟨2, ![16384, 4096]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 12
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S1x4096x512, .f32⟩
  | .hbm, ⟨2, _⟩ => ⟨S1x4096x512, .f32⟩
  | .hbm, ⟨3, _⟩ => ⟨S1x512x4096, .f32⟩
  | .hbm, ⟨4, _⟩ => ⟨S16384x4096, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S512x4096, .f32⟩
  | .hbm, ⟨10, _⟩ => ⟨S512x4096, .bf16⟩
  | .hbm, ⟨11, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SharedRefIdeal.lean ====
abbrev S4x4096x4096 : Shape := ⟨3, ![4, 4096, 4096]⟩
abbrev S1x4096x512 : Shape := ⟨3, ![1, 4096, 512]⟩
abbrev S1x512x4096 : Shape := ⟨3, ![1, 512, 4096]⟩
abbrev S16384x4096 : Shape := ⟨2, ![16384, 4096]⟩
abbrev S4096x512 : Shape := ⟨2, ![4096, 512]⟩
abbrev S16384x512 : Shape := ⟨2, ![16384, 512]⟩
abbrev S_ : Shape := ⟨0, ![]⟩
abbrev S512x4096 : Shape := ⟨2, ![512, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x512, .f32⟩
  | .hbm, ⟨2, _⟩ => ⟨S1x4096x512, .f32⟩
  | .hbm, ⟨3, _⟩ => ⟨S1x512x4096, .f32⟩
  | .hbm, ⟨4, _⟩ => ⟨S16384x4096, .f32⟩
  | .hbm, ⟨5, _⟩ => ⟨S4096x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S4096x512, .f32⟩
  | .hbm, ⟨17, _⟩ => ⟨S16384x512, .f32⟩
  | .hbm, ⟨18, _⟩ => ⟨S16384x512, .f32⟩
  | .hbm, ⟨19, _⟩ => ⟨S512x4096, .f32⟩
  | .hbm, ⟨20, _⟩ => ⟨S16384x4096, .f32⟩
  | .hbm, ⟨21, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Combine.lean ====
abbrev S98304x4096 : Shape := ⟨2, ![98304, 4096]⟩
abbrev S16384x4096 : Shape := ⟨2, ![16384, 4096]⟩
abbrev S4x4096x4096 : Shape := ⟨3, ![4, 4096, 4096]⟩
abbrev S8x24576 : Shape := ⟨2, ![8, 24576]⟩
abbrev S1x4096 : Shape := ⟨2, ![1, 4096]⟩
abbrev S8x1x24576 : Shape := ⟨3, ![8, 1, 24576]⟩
abbrev S6x4x4096x4096 : Shape := ⟨4, ![6, 4, 4096, 4096]⟩
abbrev S4096 : Shape := ⟨1, ![4096]⟩
abbrev S6x1x128x4096 : Shape := ⟨4, ![6, 1, 128, 4096]⟩
abbrev S1x128x4096 : Shape := ⟨3, ![1, 128, 4096]⟩
abbrev S1x1x4096 : Shape := ⟨3, ![1, 1, 4096]⟩
abbrev S128x4096 : Shape := ⟨2, ![128, 4096]⟩
abbrev S1x1x128x4096 : Shape := ⟨4, ![1, 1, 128, 4096]⟩
abbrev S128 : Shape := ⟨1, ![128]⟩
abbrev S128x1 : Shape := ⟨2, ![128, 1]⟩

abbrev nBuf : Space → Nat
  | .hbm => 11
  | .vmem => 11
  | .smem => 0
  | _ => 0

abbrev bufTy : (tb : Table) → Fin (tcTables nBuf tb) → BufTy
  | .hbm, ⟨0, _⟩ => ⟨S98304x4096, .f32⟩
  | .hbm, ⟨1, _⟩ => ⟨S16384x4096, .bf16⟩
  | .hbm, ⟨2, _⟩ => ⟨S4x4096x4096, .f32⟩
  | .hbm, ⟨3, _⟩ => ⟨S8x24576, .f32⟩
  | .hbm, ⟨4, _⟩ => ⟨S1x4096, .f32⟩
  | .hbm, ⟨5, _⟩ => ⟨S8x1x24576, .f32⟩
  | .hbm, ⟨6, _⟩ => ⟨S6x4x4096x4096, .f32⟩
  | .hbm, ⟨7, _⟩ => ⟨S4x4096x4096, .bf16⟩
  | .hbm, ⟨8, _⟩ => ⟨S4096, .f32⟩
  | .hbm, ⟨9, _⟩ => ⟨S1x4096, .f32⟩
  | .hbm, ⟨10, _⟩ => ⟨S4x4096x4096, .f32⟩
  | .local _ .vmem, ⟨0, _⟩ => ⟨S6x1x128x4096, .f32⟩
  | .local _ .vmem, ⟨1, _⟩ => ⟨S6x1x128x4096, .f32⟩
  | .local _ .vmem, ⟨2, _⟩ => ⟨S1x128x4096, .bf16⟩
  | .local _ .vmem, ⟨3, _⟩ => ⟨S1x128x4096, .bf16⟩
  | .local _ .vmem, ⟨4, _⟩ => ⟨S1x128x4096, .f32⟩
  | .local _ .vmem, ⟨5, _⟩ => ⟨S1x128x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x128x4096, .f32⟩
  | .local _ .vmem, ⟨10, _⟩ => ⟨S1x128x4096, .f32⟩
  | _, _ => ⟨S98304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S6x1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineRefIdeal.lean ====
abbrev S98304x4096 : Shape := ⟨2, ![98304, 4096]⟩
abbrev S16384x4096 : Shape := ⟨2, ![16384, 4096]⟩
abbrev S4x4096x4096 : Shape := ⟨3, ![4, 4096, 4096]⟩
abbrev S8x24576 : Shape := ⟨2, ![8, 24576]⟩
abbrev S1x4096 : Shape := ⟨2, ![1, 4096]⟩
abbrev S6x16384x4096 : Shape := ⟨3, ![6, 16384, 4096]⟩
abbrev S_ : Shape := ⟨0, ![]⟩
abbrev S4x24576 : Shape := ⟨2, ![4, 24576]⟩
abbrev S4x1x24576 : Shape := ⟨3, ![4, 1, 24576]⟩
abbrev S4x1x4096 : Shape := ⟨3, ![4, 1, 4096]⟩
abbrev S4x4096 : Shape := ⟨2, ![4, 4096]⟩
abbrev S4x4096x1 : Shape := ⟨3, ![4, 4096, 1]⟩
abbrev S4096 : Shape := ⟨1, ![4096]⟩
abbrev S1x1x4096 : Shape := ⟨3, ![1, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S98304x4096, .f32⟩
  | .hbm, ⟨1, _⟩ => ⟨S16384x4096, .bf16⟩
  | .hbm, ⟨2, _⟩ => ⟨S4x4096x4096, .f32⟩
  | .hbm, ⟨3, _⟩ => ⟨S8x24576, .f32⟩
  | .hbm, ⟨4, _⟩ => ⟨S1x4096, .f32⟩
  | .hbm, ⟨5, _⟩ => ⟨S6x16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S4x4096x4096, .f32⟩
  | .hbm, ⟨11, _⟩ => ⟨S4x24576, .f32⟩
  | .hbm, ⟨12, _⟩ => ⟨S4x1x24576, .f32⟩
  | .hbm, ⟨13, _⟩ => ⟨S4x1x4096, .f32⟩
  | .hbm, ⟨14, _⟩ => ⟨S4x1x4096, .f32⟩
  | .hbm, ⟨15, _⟩ => ⟨S4x1x4096, .f32⟩
  | .hbm, ⟨16, _⟩ => ⟨S4x1x4096, .f32⟩
  | .hbm, ⟨17, _⟩ => ⟨S4x1x4096, .f32⟩
  | .hbm, ⟨18, _⟩ => ⟨S4x1x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4096, .f32⟩
  | .hbm, ⟨33, _⟩ => ⟨S1x1x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | _, _ => ⟨S98304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Key.lean ====
abbrev S17408x4096 : Shape := ⟨2, ![17408, 4096]⟩
abbrev S1x4096x13024 : Shape := ⟨3, ![1, 4096, 13024]⟩
abbrev S2048 : Shape := ⟨1, ![2048]⟩
abbrev S4096x13024 : Shape := ⟨2, ![4096, 13024]⟩
abbrev S4096x2048 : Shape := ⟨2, ![4096, 2048]⟩
abbrev S_ : Shape := ⟨0, ![]⟩
abbrev S2048x1 : Shape := ⟨2, ![2048, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S256x64 : Shape := ⟨2, ![256, 64]⟩
abbrev S4352x64 : Shape := ⟨2, ![4352, 64]⟩
abbrev S4352x128 : Shape := ⟨2, ![4352, 128]⟩
abbrev S1x4352x1x128 : Shape := ⟨4, ![1, 4352, 1, 128]⟩
abbrev S4x4352x1x128 : Shape := ⟨4, ![4, 4352, 1, 128]⟩
abbrev S17408x128 : Shape := ⟨2, ![17408, 128]⟩
abbrev S17408x2048 : Shape := ⟨2, ![17408, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 63
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S2048, .i32⟩
  | .hbm, ⟨3, _⟩ => ⟨S2048, .i1⟩
  | .hbm, ⟨4, _⟩ => ⟨S4096x13024, .f32⟩
  | .hbm, ⟨5, _⟩ => ⟨S4096x2048, .f32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S4096x2048, .f32⟩
  | .hbm, ⟨12, _⟩ => ⟨S4096x2048, .bf16⟩
  | .hbm, ⟨13, _⟩ => ⟨S64, .f32⟩
  | .hbm, ⟨14, _⟩ => ⟨S64x64, .f32⟩
  | .hbm, ⟨15, _⟩ => ⟨S4096, .f32⟩
  | .hbm, ⟨16, _⟩ => ⟨S64, .f32⟩
  | .hbm, ⟨17, _⟩ => ⟨S1x64, .f32⟩
  | .hbm, ⟨18, _⟩ => ⟨S64x64, .f32⟩
  | .hbm, ⟨19, _⟩ => ⟨S4096, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x1, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S_, .f32⟩
  | .hbm, ⟨42, _⟩ => ⟨S256x64, .f32⟩
  | .hbm, ⟨43, _⟩ => ⟨S4352x64, .f32⟩
  | .hbm, ⟨44, _⟩ => ⟨S_, .f32⟩
  | .hbm, ⟨45, _⟩ => ⟨S256x64, .f32⟩
  | .hbm, ⟨46, _⟩ => ⟨S4352x64, .f32⟩
  | .hbm, ⟨47, _⟩ => ⟨S4352x128, .f32⟩
  | .hbm, ⟨48, _⟩ => ⟨S1x4352x1x128, .f32⟩
  | .hbm, ⟨49, _⟩ => ⟨S4x4352x1x128, .f32⟩
  | .hbm, ⟨50, _⟩ => ⟨S17408x128, .f32⟩
  | .hbm, ⟨51, _⟩ => ⟨S4352x64, .f32⟩
  | .hbm, ⟨52, _⟩ => ⟨S4352x128, .f32⟩
  | .hbm, ⟨53, _⟩ => ⟨S1x4352x1x128, .f32⟩
  | .hbm, ⟨54, _⟩ => ⟨S4x4352x1x128, .f32⟩
  | .hbm, ⟨55, _⟩ => ⟨S17408x128, .f32⟩
  | .hbm, ⟨56, _⟩ => ⟨S_, .f32⟩
  | .hbm, ⟨57, _⟩ => ⟨S17408x128, .f32⟩
  | .hbm, ⟨58, _⟩ => ⟨S17408x128, .f32⟩
  | .hbm, ⟨59, _⟩ => ⟨S_, .f32⟩
  | .hbm, ⟨60, _⟩ => ⟨S17408x128, .f32⟩
  | .hbm, ⟨61, _⟩ => ⟨S17408x128, .f32⟩
  | .hbm, ⟨62, _⟩ => ⟨S17408x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeyRefIdeal.lean ====
abbrev S17408x4096 : Shape := ⟨2, ![17408, 4096]⟩
abbrev S1x4096x13024 : Shape := ⟨3, ![1, 4096, 13024]⟩
abbrev S4096x13024 : Shape := ⟨2, ![4096, 13024]⟩
abbrev S4096x2048 : Shape := ⟨2, ![4096, 2048]⟩
abbrev S17408x2048 : Shape := ⟨2, ![17408, 2048]⟩
abbrev S64 : Shape := ⟨1, ![64]⟩
abbrev S32 : Shape := ⟨1, ![32]⟩
abbrev S_ : Shape := ⟨0, ![]⟩
abbrev S64x1 : Shape := ⟨2, ![64, 1]⟩
abbrev S1x32 : Shape := ⟨2, ![1, 32]⟩
abbrev S64x32 : Shape := ⟨2, ![64, 32]⟩
abbrev S64x1x32 : Shape := ⟨3, ![64, 1, 32]⟩
abbrev S64x64x32 : Shape := ⟨3, ![64, 64, 32]⟩
abbrev S1x64x32 : Shape := ⟨3, ![1, 64, 32]⟩
abbrev S64x64x64 : Shape := ⟨3, ![64, 64, 64]⟩
abbrev S4096x64 : Shape := ⟨2, ![4096, 64]⟩
abbrev S1x4096x1x64 : Shape := ⟨4, ![1, 4096, 1, 64]⟩
abbrev S4x4352x16x64x2 : Shape := ⟨5, ![4, 4352, 16, 64, 2]⟩
abbrev S4x4096x16x64x1 : Shape := ⟨5, ![4, 4096, 16, 64, 1]⟩
abbrev S4x4096x16x64 : Shape := ⟨4, ![4, 4096, 16, 64]⟩
abbrev S4x4096x16x128 : Shape := ⟨4, ![4, 4096, 16, 128]⟩
abbrev S4x256x16x64x1 : Shape := ⟨5, ![4, 256, 16, 64, 1]⟩
abbrev S4x256x16x64 : Shape := ⟨4, ![4, 256, 16, 64]⟩
abbrev S4x256x16x128 : Shape := ⟨4, ![4, 256, 16, 128]⟩
abbrev S4x4352x16x128 : Shape := ⟨4, ![4, 4352, 16, 128]⟩

abbrev nBuf : Space → Nat
  | .hbm => 54
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S17408x4096, .f32⟩
  | .hbm, ⟨3, _⟩ => ⟨S4096x13024, .f32⟩
  | .hbm, ⟨4, _⟩ => ⟨S4096x2048, .f32⟩
  | .hbm, ⟨5, _⟩ => ⟨S17408x2048, .f32⟩
  | .hbm, ⟨6, _⟩ => ⟨S64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S64x1, .f32⟩
  | .hbm, ⟨16, _⟩ => ⟨S1x32, .f32⟩
  | .hbm, ⟨17, _⟩ => ⟨S64x32, .f32⟩
  | .hbm, ⟨18, _⟩ => ⟨S64x32, .f32⟩
  | .hbm, ⟨19, _⟩ => ⟨S64x32, .f32⟩
  | .hbm, ⟨20, _⟩ => ⟨S64x1x32, .f32⟩
  | .hbm, ⟨21, _⟩ => ⟨S64x64x32, .f32⟩
  | .hbm, ⟨22, _⟩ => ⟨S1x64x32, .f32⟩
  | .hbm, ⟨23, _⟩ => ⟨S64x64x32, .f32⟩
  | .hbm, ⟨24, _⟩ => ⟨S64x64x64, .f32⟩
  | .hbm, ⟨25, _⟩ => ⟨S4096x64, .f32⟩
  | .hbm, ⟨26, _⟩ => ⟨S4096x64, .f32⟩
  | .hbm, ⟨27, _⟩ => ⟨S1x4096x1x64, .f32⟩
  | .hbm, ⟨28, _⟩ => ⟨S4096x64, .f32⟩
  | .hbm, ⟨29, _⟩ => ⟨S1x4096x1x64, .f32⟩
  | .hbm, ⟨30, _⟩ => ⟨S4x4352x16x64x2, .f32⟩
  | .hbm, ⟨31, _⟩ => ⟨S4x4096x16x64x1, .f32⟩
  | .hbm, ⟨32, _⟩ => ⟨S4x4096x16x64, .f32⟩
  | .hbm, ⟨33, _⟩ => ⟨S4x4096x16x64x1, .f32⟩
  | .hbm, ⟨34, _⟩ => ⟨S4x4096x16x64, .f32⟩
  | .hbm, ⟨35, _⟩ => ⟨S4x4096x16x64, .f32⟩
  | .hbm, ⟨36, _⟩ => ⟨S4x4096x16x64, .f32⟩
  | .hbm, ⟨37, _⟩ => ⟨S4x4096x16x64, .f32⟩
  | .hbm, ⟨38, _⟩ => ⟨S4x4096x16x64, .f32⟩
  | .hbm, ⟨39, _⟩ => ⟨S4x4096x16x64, .f32⟩
  | .hbm, ⟨40, _⟩ => ⟨S4x4096x16x64, .f32⟩
  | .hbm, ⟨41, _⟩ => ⟨S4x4096x16x64, .f32⟩
  | .hbm, ⟨42, _⟩ => ⟨S4x4096x16x64, .f32⟩
  | .hbm, ⟨43, _⟩ => ⟨S4x4096x16x64, .f32⟩
  | .hbm, ⟨44, _⟩ => ⟨S4x4096x16x64, .f32⟩
  | .hbm, ⟨45, _⟩ => ⟨S4x4096x16x128, .f32⟩
  | .hbm, ⟨46, _⟩ => ⟨S4x256x16x64x1, .f32⟩
  | .hbm, ⟨47, _⟩ => ⟨S4x256x16x64, .f32⟩
  | .hbm, ⟨48, _⟩ => ⟨S4x256x16x64x1, .f32⟩
  | .hbm, ⟨49, _⟩ => ⟨S4x256x16x64, .f32⟩
  | .hbm, ⟨50, _⟩ => ⟨S4x256x16x128, .f32⟩
  | .hbm, ⟨51, _⟩ => ⟨S4x4352x16x128, .f32⟩
  | .hbm, ⟨52, _⟩ => ⟨S17408x2048, .f32⟩
  | .hbm, ⟨53, _⟩ => ⟨S17408x2048, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩

abbrev nD : Nat := 1
abbrev τ : Topo := Topo.v7x

variable {F : FTy → Type} [FloatOps F]
-- ==== Query.lean ====
abbrev S17408x4096 : Shape := ⟨2, ![17408, 4096]⟩
abbrev S1x4096x13024 : Shape := ⟨3, ![1, 4096, 13024]⟩
abbrev S2048 : Shape := ⟨1, ![2048]⟩
abbrev S4096x13024 : Shape := ⟨2, ![4096, 13024]⟩
abbrev S4096x2048 : Shape := ⟨2, ![4096, 2048]⟩
abbrev S_ : Shape := ⟨0, ![]⟩
abbrev S2048x1 : Shape := ⟨2, ![2048, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S256x64 : Shape := ⟨2, ![256, 64]⟩
abbrev S4352x64 : Shape := ⟨2, ![4352, 64]⟩
abbrev S4352x128 : Shape := ⟨2, ![4352, 128]⟩
abbrev S1x4352x1x128 : Shape := ⟨4, ![1, 4352, 1, 128]⟩
abbrev S4x4352x1x128 : Shape := ⟨4, ![4, 4352, 1, 128]⟩
abbrev S17408x128 : Shape := ⟨2, ![17408, 128]⟩
abbrev S17408x2048 : Shape := ⟨2, ![17408, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 63
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S2048, .i32⟩
  | .hbm, ⟨3, _⟩ => ⟨S2048, .i1⟩
  | .hbm, ⟨4, _⟩ => ⟨S4096x13024, .f32⟩
  | .hbm, ⟨5, _⟩ => ⟨S4096x2048, .f32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S4096x2048, .f32⟩
  | .hbm, ⟨12, _⟩ => ⟨S4096x2048, .bf16⟩
  | .hbm, ⟨13, _⟩ => ⟨S64, .f32⟩
  | .hbm, ⟨14, _⟩ => ⟨S64x64, .f32⟩
  | .hbm, ⟨15, _⟩ => ⟨S4096, .f32⟩
  | .hbm, ⟨16, _⟩ => ⟨S64, .f32⟩
  | .hbm, ⟨17, _⟩ => ⟨S1x64, .f32⟩
  | .hbm, ⟨18, _⟩ => ⟨S64x64, .f32⟩
  | .hbm, ⟨19, _⟩ => ⟨S4096, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x1, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S_, .f32⟩
  | .hbm, ⟨42, _⟩ => ⟨S256x64, .f32⟩
  | .hbm, ⟨43, _⟩ => ⟨S4352x64, .f32⟩
  | .hbm, ⟨44, _⟩ => ⟨S_, .f32⟩
  | .hbm, ⟨45, _⟩ => ⟨S256x64, .f32⟩
  | .hbm, ⟨46, _⟩ => ⟨S4352x64, .f32⟩
  | .hbm, ⟨47, _⟩ => ⟨S4352x128, .f32⟩
  | .hbm, ⟨48, _⟩ => ⟨S1x4352x1x128, .f32⟩
  | .hbm, ⟨49, _⟩ => ⟨S4x4352x1x128, .f32⟩
  | .hbm, ⟨50, _⟩ => ⟨S17408x128, .f32⟩
  | .hbm, ⟨51, _⟩ => ⟨S4352x64, .f32⟩
  | .hbm, ⟨52, _⟩ => ⟨S4352x128, .f32⟩
  | .hbm, ⟨53, _⟩ => ⟨S1x4352x1x128, .f32⟩
  | .hbm, ⟨54, _⟩ => ⟨S4x4352x1x128, .f32⟩
  | .hbm, ⟨55, _⟩ => ⟨S17408x128, .f32⟩
  | .hbm, ⟨56, _⟩ => ⟨S_, .f32⟩
  | .hbm, ⟨57, _⟩ => ⟨S17408x128, .f32⟩
  | .hbm, ⟨58, _⟩ => ⟨S17408x128, .f32⟩
  | .hbm, ⟨59, _⟩ => ⟨S_, .f32⟩
  | .hbm, ⟨60, _⟩ => ⟨S17408x128, .f32⟩
  | .hbm, ⟨61, _⟩ => ⟨S17408x128, .f32⟩
  | .hbm, ⟨62, _⟩ => ⟨S17408x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryRefIdeal.lean ====
abbrev S17408x4096 : Shape := ⟨2, ![17408, 4096]⟩
abbrev S1x4096x13024 : Shape := ⟨3, ![1, 4096, 13024]⟩
abbrev S4096x13024 : Shape := ⟨2, ![4096, 13024]⟩
abbrev S4096x2048 : Shape := ⟨2, ![4096, 2048]⟩
abbrev S17408x2048 : Shape := ⟨2, ![17408, 2048]⟩
abbrev S64 : Shape := ⟨1, ![64]⟩
abbrev S32 : Shape := ⟨1, ![32]⟩
abbrev S_ : Shape := ⟨0, ![]⟩
abbrev S64x1 : Shape := ⟨2, ![64, 1]⟩
abbrev S1x32 : Shape := ⟨2, ![1, 32]⟩
abbrev S64x32 : Shape := ⟨2, ![64, 32]⟩
abbrev S64x1x32 : Shape := ⟨3, ![64, 1, 32]⟩
abbrev S64x64x32 : Shape := ⟨3, ![64, 64, 32]⟩
abbrev S1x64x32 : Shape := ⟨3, ![1, 64, 32]⟩
abbrev S64x64x64 : Shape := ⟨3, ![64, 64, 64]⟩
abbrev S4096x64 : Shape := ⟨2, ![4096, 64]⟩
abbrev S1x4096x1x64 : Shape := ⟨4, ![1, 4096, 1, 64]⟩
abbrev S4x4352x16x64x2 : Shape := ⟨5, ![4, 4352, 16, 64, 2]⟩
abbrev S4x4096x16x64x1 : Shape := ⟨5, ![4, 4096, 16, 64, 1]⟩
abbrev S4x4096x16x64 : Shape := ⟨4, ![4, 4096, 16, 64]⟩
abbrev S4x4096x16x128 : Shape := ⟨4, ![4, 4096, 16, 128]⟩
abbrev S4x256x16x64x1 : Shape := ⟨5, ![4, 256, 16, 64, 1]⟩
abbrev S4x256x16x64 : Shape := ⟨4, ![4, 256, 16, 64]⟩
abbrev S4x256x16x128 : Shape := ⟨4, ![4, 256, 16, 128]⟩
abbrev S4x4352x16x128 : Shape := ⟨4, ![4, 4352, 16, 128]⟩

abbrev nBuf : Space → Nat
  | .hbm => 57
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x13024, .f32⟩
  | .hbm, ⟨2, _⟩ => ⟨S17408x4096, .f32⟩
  | .hbm, ⟨3, _⟩ => ⟨S4096x13024, .f32⟩
  | .hbm, ⟨4, _⟩ => ⟨S4096x2048, .f32⟩
  | .hbm, ⟨5, _⟩ => ⟨S17408x2048, .f32⟩
  | .hbm, ⟨6, _⟩ => ⟨S64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S64x1, .f32⟩
  | .hbm, ⟨16, _⟩ => ⟨S1x32, .f32⟩
  | .hbm, ⟨17, _⟩ => ⟨S64x32, .f32⟩
  | .hbm, ⟨18, _⟩ => ⟨S64x32, .f32⟩
  | .hbm, ⟨19, _⟩ => ⟨S64x32, .f32⟩
  | .hbm, ⟨20, _⟩ => ⟨S64x1x32, .f32⟩
  | .hbm, ⟨21, _⟩ => ⟨S64x64x32, .f32⟩
  | .hbm, ⟨22, _⟩ => ⟨S1x64x32, .f32⟩
  | .hbm, ⟨23, _⟩ => ⟨S64x64x32, .f32⟩
  | .hbm, ⟨24, _⟩ => ⟨S64x64x64, .f32⟩
  | .hbm, ⟨25, _⟩ => ⟨S4096x64, .f32⟩
  | .hbm, ⟨26, _⟩ => ⟨S4096x64, .f32⟩
  | .hbm, ⟨27, _⟩ => ⟨S1x4096x1x64, .f32⟩
  | .hbm, ⟨28, _⟩ => ⟨S4096x64, .f32⟩
  | .hbm, ⟨29, _⟩ => ⟨S1x4096x1x64, .f32⟩
  | .hbm, ⟨30, _⟩ => ⟨S4x4352x16x64x2, .f32⟩
  | .hbm, ⟨31, _⟩ => ⟨S4x4096x16x64x1, .f32⟩
  | .hbm, ⟨32, _⟩ => ⟨S4x4096x16x64, .f32⟩
  | .hbm, ⟨33, _⟩ => ⟨S4x4096x16x64x1, .f32⟩
  | .hbm, ⟨34, _⟩ => ⟨S4x4096x16x64, .f32⟩
  | .hbm, ⟨35, _⟩ => ⟨S4x4096x16x64, .f32⟩
  | .hbm, ⟨36, _⟩ => ⟨S4x4096x16x64, .f32⟩
  | .hbm, ⟨37, _⟩ => ⟨S4x4096x16x64, .f32⟩
  | .hbm, ⟨38, _⟩ => ⟨S4x4096x16x64, .f32⟩
  | .hbm, ⟨39, _⟩ => ⟨S4x4096x16x64, .f32⟩
  | .hbm, ⟨40, _⟩ => ⟨S4x4096x16x64, .f32⟩
  | .hbm, ⟨41, _⟩ => ⟨S4x4096x16x64, .f32⟩
  | .hbm, ⟨42, _⟩ => ⟨S4x4096x16x64, .f32⟩
  | .hbm, ⟨43, _⟩ => ⟨S4x4096x16x64, .f32⟩
  | .hbm, ⟨44, _⟩ => ⟨S4x4096x16x64, .f32⟩
  | .hbm, ⟨45, _⟩ => ⟨S4x4096x16x128, .f32⟩
  | .hbm, ⟨46, _⟩ => ⟨S4x256x16x64x1, .f32⟩
  | .hbm, ⟨47, _⟩ => ⟨S4x256x16x64, .f32⟩
  | .hbm, ⟨48, _⟩ => ⟨S4x256x16x64x1, .f32⟩
  | .hbm, ⟨49, _⟩ => ⟨S4x256x16x64, .f32⟩
  | .hbm, ⟨50, _⟩ => ⟨S4x256x16x128, .f32⟩
  | .hbm, ⟨51, _⟩ => ⟨S4x4352x16x128, .f32⟩
  | .hbm, ⟨52, _⟩ => ⟨S17408x2048, .f32⟩
  | .hbm, ⟨53, _⟩ => ⟨S_, .f32⟩
  | .hbm, ⟨54, _⟩ => ⟨S17408x2048, .f32⟩
  | .hbm, ⟨55, _⟩ => ⟨S17408x2048, .f32⟩
  | .hbm, ⟨56, _⟩ => ⟨S17408x2048, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩

abbrev nD : Nat := 1
abbrev τ : Topo := Topo.v7x

variable {F : FTy → Type} [FloatOps F]
-- ==== Feat.lean ====
abbrev S4x4352x6912 : Shape := ⟨3, ![4, 4352, 6912]⟩
abbrev S1x2x6880 : Shape := ⟨3, ![1, 2, 6880]⟩
abbrev S3x2048 : Shape := ⟨2, ![3, 2048]⟩
abbrev S1x2x2048 : Shape := ⟨3, ![1, 2, 2048]⟩
abbrev S1x2x128x2048 : Shape := ⟨4, ![1, 2, 128, 2048]⟩
abbrev S1x480x2048 : Shape := ⟨3, ![1, 480, 2048]⟩
abbrev S2048x128 : Shape := ⟨2, ![2048, 128]⟩
abbrev S128x2048 : Shape := ⟨2, ![128, 2048]⟩
abbrev S2x6880 : Shape := ⟨2, ![2, 6880]⟩
abbrev S_ : Shape := ⟨0, ![]⟩
abbrev S2x6912 : Shape := ⟨2, ![2, 6912]⟩
abbrev S480x2048 : Shape := ⟨2, ![480, 2048]⟩
abbrev S512x2048 : Shape := ⟨2, ![512, 2048]⟩
abbrev S2x2048 : Shape := ⟨2, ![2, 2048]⟩
abbrev S2x128x2048 : Shape := ⟨3, ![2, 128, 2048]⟩
abbrev S4x4352x2048 : Shape := ⟨3, ![4, 4352, 2048]⟩
abbrev S1x128x6912 : Shape := ⟨3, ![1, 128, 6912]⟩
abbrev S1x8x6912 : Shape := ⟨3, ![1, 8, 6912]⟩
abbrev S1x128x2048 : Shape := ⟨3, ![1, 128, 2048]⟩
abbrev S128x6912 : Shape := ⟨2, ![128, 6912]⟩
abbrev S128x1 : Shape := ⟨2, ![128, 1]⟩
abbrev S1x1x6912 : Shape := ⟨3, ![1, 1, 6912]⟩
abbrev S1x6912 : Shape := ⟨2, ![1, 6912]⟩
abbrev S128x128 : Shape := ⟨2, ![128, 128]⟩
abbrev S128x512 : Shape := ⟨2, ![128, 512]⟩
abbrev S1x2048 : Shape := ⟨2, ![1, 2048]⟩

abbrev nBuf : Space → Nat
  | .hbm => 36
  | .vmem => 37
  | .smem => 0
  | _ => 0

abbrev bufTy : (tb : Table) → Fin (tcTables nBuf tb) → BufTy
  | .hbm, ⟨0, _⟩ => ⟨S4x4352x6912, .bf16⟩
  | .hbm, ⟨1, _⟩ => ⟨S1x2x6880, .f32⟩
  | .hbm, ⟨2, _⟩ => ⟨S3x2048, .f32⟩
  | .hbm, ⟨3, _⟩ => ⟨S1x2x2048, .f32⟩
  | .hbm, ⟨4, _⟩ => ⟨S1x2x128x2048, .f32⟩
  | .hbm, ⟨5, _⟩ => ⟨S1x2x2048, .f32⟩
  | .hbm, ⟨6, _⟩ => ⟨S1x2x128x2048, .f32⟩
  | .hbm, ⟨7, _⟩ => ⟨S1x480x2048, .f32⟩
  | .hbm, ⟨8, _⟩ => ⟨S2048x128, .bf16⟩
  | .hbm, ⟨9, _⟩ => ⟨S128x2048, .bf16⟩
  | .hbm, ⟨10, _⟩ => ⟨S2x6880, .f32⟩
  | .hbm, ⟨11, _⟩ => ⟨S_, .i32⟩
  | .hbm, ⟨12, _⟩ => ⟨S_, .f32⟩
  | .hbm, ⟨13, _⟩ => ⟨S2x6912, .f32⟩
  | .hbm, ⟨14, _⟩ => ⟨S480x2048, .f32⟩
  | .hbm, ⟨15, _⟩ => ⟨S_, .i32⟩
  | .hbm, ⟨16, _⟩ => ⟨S_, .f32⟩
  | .hbm, ⟨17, _⟩ => ⟨S512x2048, .f32⟩
  | .hbm, ⟨18, _⟩ => ⟨S512x2048, .bf16⟩
  | .hbm, ⟨19, _⟩ => ⟨S2x2048, .f32⟩
  | .hbm, ⟨20, _⟩ => ⟨S2x2048, .f32⟩
  | .hbm, ⟨21, _⟩ => ⟨S2x128x2048, .f32⟩
  | .hbm, ⟨22, _⟩ => ⟨S2x128x2048, .bf16⟩
  | .hbm, ⟨23, _⟩ => ⟨S2x128x2048, .f32⟩
  | .hbm, ⟨24, _⟩ => ⟨S2x128x2048, .bf16⟩
  | .hbm, ⟨25, _⟩ => ⟨S4x4352x2048, .bf16⟩
  | .hbm, ⟨26, _⟩ => ⟨S4x4352x2048, .bf16⟩
  | .hbm, ⟨27, _⟩ => ⟨S4x4352x2048, .bf16⟩
  | .hbm, ⟨28, _⟩ => ⟨S4x4352x2048, .f32⟩
  | .hbm, ⟨29, _⟩ => ⟨S4x4352x2048, .f32⟩
  | .hbm, ⟨30, _⟩ => ⟨S4x4352x2048, .bf16⟩
  | .hbm, ⟨31, _⟩ => ⟨S4x4352x2048, .bf16⟩
  | .hbm, ⟨32, _⟩ => ⟨S4x4352x2048, .bf16⟩
  | .hbm, ⟨33, _⟩ => ⟨S4x4352x2048, .bf16⟩
  | .hbm, ⟨34, _⟩ => ⟨S4x4352x2048, .bf16⟩
  | .hbm, ⟨35, _⟩ => ⟨S4x4352x2048, .bf16⟩
  | .local _ .vmem, ⟨0, _⟩ => ⟨S1x128x6912, .bf16⟩
  | .local _ .vmem, ⟨1, _⟩ => ⟨S1x128x6912, .bf16⟩
  | .local _ .vmem, ⟨2, _⟩ => ⟨S1x8x6912, .bf16⟩
  | .local _ .vmem, ⟨3, _⟩ => ⟨S1x8x6912, .bf16⟩
  | .local _ .vmem, ⟨4, _⟩ => ⟨S1x8x6912, .bf16⟩
  | .local _ .vmem, ⟨5, _⟩ => ⟨S1x8x6912, .bf16⟩
  | .local _ .vmem, ⟨6, _⟩ => ⟨S2x6912, .f32⟩
  | .local _ .vmem, ⟨7, _⟩ => ⟨S3x2048, .f32⟩
  | .local _ .vmem, ⟨8, _⟩ => ⟨S2x2048, .f32⟩
  | .local _ .vmem, ⟨9, _⟩ => ⟨S2x2048, .f32⟩
  | .local _ .vmem, ⟨10, _⟩ => ⟨S2x128x2048, .bf16⟩
  | .local _ .vmem, ⟨11, _⟩ => ⟨S2x128x2048, .bf16⟩
  | .local _ .vmem, ⟨12, _⟩ => ⟨S512x2048, .bf16⟩
  | .local _ .vmem, ⟨13, _⟩ => ⟨S2048x128, .bf16⟩
  | .local _ .vmem, ⟨14, _⟩ => ⟨S128x2048, .bf16⟩
  | .local _ .vmem, ⟨15, _⟩ => ⟨S1x128x2048, .bf16⟩
  | .local _ .vmem, ⟨16, _⟩ => ⟨S1x128x2048, .bf16⟩
  | .local _ .vmem, ⟨17, _⟩ => ⟨S1x128x2048, .bf16⟩
  | .local _ .vmem, ⟨18, _⟩ => ⟨S1x128x2048, .bf16⟩
  | .local _ .vmem, ⟨19, _⟩ => ⟨S1x128x2048, .bf16⟩
  | .local _ .vmem, ⟨20, _⟩ => ⟨S1x128x2048, .bf16⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .bf16⟩
  | .local _ .vmem, ⟨26, _⟩ => ⟨S1x128x2048, .bf16⟩
  | .local _ .vmem, ⟨27, _⟩ => ⟨S1x128x2048, .bf16⟩
  | .local _ .vmem, ⟨28, _⟩ => ⟨S1x128x2048, .bf16⟩
  | .local _ .vmem, ⟨29, _⟩ => ⟨S1x128x2048, .bf16⟩
  | .local _ .vmem, ⟨30, _⟩ => ⟨S1x128x2048, .bf16⟩
  | .local _ .vmem, ⟨31, _⟩ => ⟨S1x128x2048, .bf16⟩
  | .local _ .vmem, ⟨32, _⟩ => ⟨S1x128x2048, .bf16⟩
  | .local _ .vmem, ⟨33, _⟩ => ⟨S1x128x2048, .bf16⟩
  | .local _ .vmem, ⟨34, _⟩ => ⟨S1x128x2048, .bf16⟩
  | .local _ .vmem, ⟨35, _⟩ => ⟨S1x128x2048, .bf16⟩
  | .local _ .vmem, ⟨36, _⟩ => ⟨S1x128x2048, .bf16⟩
  | _, _ => ⟨S4x4352x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev main_v11_6 : Ref sig .tc := ⟨.hbm, 31, rfl⟩
abbrev main_v11_7 : Ref sig .tc := ⟨.hbm, 32, rfl⟩
abbrev main_v11_8 : Ref sig .tc := ⟨.hbm, 33, rfl⟩
abbrev main_v11_9 : Ref sig .tc := ⟨.hbm, 34, rfl⟩
abbrev main_v11_10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨2, ![4, 34], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x6912 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x128x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x128x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== FeatRefIdeal.lean ====
abbrev S4x4352x6912 : Shape := ⟨3, ![4, 4352, 6912]⟩
abbrev S1x2x6880 : Shape := ⟨3, ![1, 2, 6880]⟩
abbrev S3x2048 : Shape := ⟨2, ![3, 2048]⟩
abbrev S1x2x2048 : Shape := ⟨3, ![1, 2, 2048]⟩
abbrev S1x2x128x2048 : Shape := ⟨4, ![1, 2, 128, 2048]⟩
abbrev S1x480x2048 : Shape := ⟨3, ![1, 480, 2048]⟩
abbrev S2048x128 : Shape := ⟨2, ![2048, 128]⟩
abbrev S128x2048 : Shape := ⟨2, ![128, 2048]⟩
abbrev S1x2048 : Shape := ⟨2, ![1, 2048]⟩
abbrev S2048 : Shape := ⟨1, ![2048]⟩
abbrev S4x4352x6880 : Shape := ⟨3, ![4, 4352, 6880]⟩
abbrev S4x256x6880 : Shape := ⟨3, ![4, 256, 6880]⟩
abbrev S1x1x6880 : Shape := ⟨3, ![1, 1, 6880]⟩
abbrev S6880 : Shape := ⟨1, ![6880]⟩
abbrev S4x255x6880 : Shape := ⟨3, ![4, 255, 6880]⟩
abbrev S_ : Shape := ⟨0, ![]⟩
abbrev S4x4096x6880 : Shape := ⟨3, ![4, 4096, 6880]⟩
abbrev S4x4095x6880 : Shape := ⟨3, ![4, 4095, 6880]⟩
abbrev S4x4352x2048 : Shape := ⟨3, ![4, 4352, 2048]⟩
abbrev S4x4352x128 : Shape := ⟨3, ![4, 4352, 128]⟩
abbrev S4x4352x480 : Shape := ⟨3, ![4, 4352, 480]⟩
abbrev S1x1x2048 : Shape := ⟨3, ![1, 1, 2048]⟩
abbrev S1x1x128x2048 : Shape := ⟨4, ![1, 1, 128, 2048]⟩
abbrev S480x2048 : Shape := ⟨2, ![480, 2048]⟩

abbrev nBuf : Space → Nat
  | .hbm => 194
  | .vmem => 0
  | .smem => 0
  | _ => 0

abbrev hbmTy0_0 (i : Nat) : BufTy := match i % 128 with
  | 0 => ⟨S4x4352x6912, .bf16⟩
  | 1 => ⟨S1x2x6880, .f32⟩
  | 2 => ⟨S3x2048, .f32⟩
  | 3 => ⟨S1x2x2048, .f32⟩
  | 4 => ⟨S1x2x128x2048, .f32⟩
  | 5 => ⟨S1x2x2048, .f32⟩
  | 6 => ⟨S1x2x128x2048, .f32⟩
  | 7 => ⟨S1x480x2048, .f32⟩
  | 8 => ⟨S2048x128, .bf16⟩
  | 9 => ⟨S128x2048, .bf16⟩
  | 10 => ⟨S1x2048, .f32⟩
  | 11 => ⟨S2048, .f32⟩
  | 12 => ⟨S4x4352x6880, .bf16⟩
  | 13 => ⟨S4x4352x6880, .f32⟩
  | 14 => ⟨S4x256x6880, .f32⟩
  | 15 => ⟨S1x1x6880, .f32⟩
  | 16 => ⟨S6880, .f32⟩
  | 17 => ⟨S1x1x6880, .f32⟩
  | 18 => ⟨S6880, .f32⟩
  | 19 => ⟨S4x255x6880, .f32⟩
  | 20 => ⟨S_, .i32⟩
  | 21 => ⟨S_, .f32⟩
  | 22 => ⟨S4x256x6880, .f32⟩
  | 23 => ⟨S4x255x6880, .f32⟩
  | 24 => ⟨S_, .i32⟩
  | 25 => ⟨S_, .f32⟩
  | 26 => ⟨S4x256x6880, .f32⟩
  | 27 => ⟨S4x256x6880, .f32⟩
  | 28 => ⟨S1x1x6880, .f32⟩
  | 29 => ⟨S4x256x6880, .f32⟩
  | 30 => ⟨S4x256x6880, .f32⟩
  | 31 => ⟨S4x256x6880, .f32⟩
  | 32 => ⟨S4x256x6880, .f32⟩
  | 33 => ⟨S1x1x6880, .f32⟩
  | 34 => ⟨S4x256x6880, .f32⟩
  | 35 => ⟨S4x256x6880, .f32⟩
  | 36 => ⟨S4x256x6880, .f32⟩
  | 37 => ⟨S4x4096x6880, .f32⟩
  | 38 => ⟨S1x1x6880, .f32⟩
  | 39 => ⟨S6880, .f32⟩
  | 40 => ⟨S1x1x6880, .f32⟩
  | 41 => ⟨S6880, .f32⟩
  | 42 => ⟨S4x4095x6880, .f32⟩
  | 43 => ⟨S_, .i32⟩
  | 44 => ⟨S_, .f32⟩
  | 45 => ⟨S4x4096x6880, .f32⟩
  | 46 => ⟨S4x4095x6880, .f32⟩
  | 47 => ⟨S_, .i32⟩
  | 48 => ⟨S_, .f32⟩
  | 49 => ⟨S4x4096x6880, .f32⟩
  | 50 => ⟨S4x4096x6880, .f32⟩
  | 51 => ⟨S1x1x6880, .f32⟩
  | 52 => ⟨S4x4096x6880, .f32⟩
  | 53 => ⟨S4x4096x6880, .f32⟩
  | 54 => ⟨S4x4096x6880, .f32⟩
  | 55 => ⟨S4x4096x6880, .f32⟩
  | 56 => ⟨S1x1x6880, .f32⟩
  | 57 => ⟨S4x4096x6880, .f32⟩
  | 58 => ⟨S4x4096x6880, .f32⟩
  | 59 => ⟨S4x4096x6880, .f32⟩
  | 60 => ⟨S4x4352x6880, .f32⟩
  | 61 => ⟨S4x4352x2048, .f32⟩
  | 62 => ⟨S4x4352x2048, .f32⟩
  | 63 => ⟨S4x4352x2048, .f32⟩
  | 64 => ⟨S4x4352x128, .f32⟩
  | 65 => ⟨S4x4352x128, .f32⟩
  | 66 => ⟨S4x4352x480, .f32⟩
  | 67 => ⟨S1x1x2048, .f32⟩
  | 68 => ⟨S2048, .f32⟩
  | 69 => ⟨S4x4352x128, .f32⟩
  | 70 => ⟨S1x1x128x2048, .f32⟩
  | 71 => ⟨S128x2048, .f32⟩
  | 72 => ⟨S4x4352x2048, .f32⟩
  | 73 => ⟨S1x1x2048, .f32⟩
  | 74 => ⟨S4x4352x2048, .f32⟩
  | 75 => ⟨S4x4352x2048, .f32⟩
  | 76 => ⟨S4x4352x2048, .f32⟩
  | 77 => ⟨S_, .f32⟩
  | 78 => ⟨S4x4352x2048, .f32⟩
  | 79 => ⟨S4x4352x2048, .f32⟩
  | 80 => ⟨S4x4352x2048, .f32⟩
  | 81 => ⟨S4x4352x2048, .f32⟩
  | 82 => ⟨S4x4352x2048, .i1⟩
  | 83 => ⟨S4x4352x2048, .f32⟩
  | 84 => ⟨S4x4352x2048, .f32⟩
  | 85 => ⟨S4x4352x2048, .f32⟩
  | 86 => ⟨S4x4352x2048, .f32⟩
  | 87 => ⟨S4x4352x2048, .f32⟩
  | 88 => ⟨S4x4352x2048, .f32⟩
  | 89 => ⟨S4x4352x2048, .f32⟩
  | 90 => ⟨S4x4352x2048, .f32⟩
  | 91 => ⟨S4x4352x2048, .f32⟩
  | 92 => ⟨S_, .f32⟩
  | 93 => ⟨S4x4352x2048, .f32⟩
  | 94 => ⟨S4x4352x2048, .f32⟩
  | 95 => ⟨S4x4352x2048, .f32⟩
  | 96 => ⟨S4x4352x2048, .f32⟩
  | 97 => ⟨S1x1x2048, .f32⟩
  | 98 => ⟨S2048, .f32⟩
  | 99 => ⟨S1x1x128x2048, .f32⟩
  | 100 => ⟨S128x2048, .f32⟩
  | 101 => ⟨S4x4352x2048, .f32⟩
  | 102 => ⟨S1x1x2048, .f32⟩
  | 103 => ⟨S4x4352x2048, .f32⟩
  | 104 => ⟨S4x4352x2048, .f32⟩
  | 105 => ⟨S4x4352x2048, .f32⟩
  | 106 => ⟨S4x4352x2048, .f32⟩
  | 107 => ⟨S_, .f32⟩
  | 108 => ⟨S4x4352x2048, .f32⟩
  | 109 => ⟨S4x4352x2048, .f32⟩
  | 110 => ⟨S_, .f32⟩
  | 111 => ⟨S4x4352x2048, .f32⟩
  | 112 => ⟨S4x4352x2048, .f32⟩
  | 113 => ⟨S_, .f32⟩
  | 114 => ⟨S4x4352x2048, .f32⟩
  | 115 => ⟨S4x4352x2048, .f32⟩
  | 116 => ⟨S1x1x2048, .f32⟩
  | 117 => ⟨S4x4352x2048, .f32⟩
  | 118 => ⟨S4x4352x2048, .f32⟩
  | 119 => ⟨S_, .f32⟩
  | 120 => ⟨S4x4352x2048, .f32⟩
  | 121 => ⟨S4x4352x2048, .f32⟩
  | 122 => ⟨S4x4352x2048, .f32⟩
  | 123 => ⟨S1x1x2048, .f32⟩
  | 124 => ⟨S2048, .f32⟩
  | 125 => ⟨S4x4352x128, .f32⟩
  | 126 => ⟨S1x1x128x2048, .f32⟩
  | 127 => ⟨S128x2048, .f32⟩
  | _ => ⟨S4x4352x6912, .bf16⟩

abbrev hbmTy0_1 (i : Nat) : BufTy := match i % 128 with
  | 0 => ⟨S4x4352x2048, .f32⟩
  | 1 => ⟨S1x1x2048, .f32⟩
  | 2 => ⟨S4x4352x2048, .f32⟩
  | 3 => ⟨S4x4352x2048, .f32⟩
  | 4 => ⟨S4x4352x2048, .f32⟩
  | 5 => ⟨S_, .f32⟩
  | 6 => ⟨S4x4352x2048, .f32⟩
  | 7 => ⟨S4x4352x2048, .f32⟩
  | 8 => ⟨S4x4352x2048, .f32⟩
  | 9 => ⟨S4x4352x2048, .f32⟩
  | 10 => ⟨S4x4352x2048, .i1⟩
  | 11 => ⟨S4x4352x2048, .f32⟩
  | 12 => ⟨S4x4352x2048, .f32⟩
  | 13 => ⟨S4x4352x2048, .f32⟩
  | 14 => ⟨S4x4352x2048, .f32⟩
  | 15 => ⟨S4x4352x2048, .f32⟩
  | 16 => ⟨S4x4352x2048, .f32⟩
  | 17 => ⟨S4x4352x2048, .f32⟩
  | 18 => ⟨S4x4352x2048, .f32⟩
  | 19 => ⟨S4x4352x2048, .f32⟩
  | 20 => ⟨S_, .f32⟩
  | 21 => ⟨S4x4352x2048, .f32⟩
  | 22 => ⟨S4x4352x2048, .f32⟩
  | 23 => ⟨S4x4352x2048, .f32⟩
  | 24 => ⟨S4x4352x2048, .f32⟩
  | 25 => ⟨S1x1x2048, .f32⟩
  | 26 => ⟨S2048, .f32⟩
  | 27 => ⟨S1x1x128x2048, .f32⟩
  | 28 => ⟨S128x2048, .f32⟩
  | 29 => ⟨S4x4352x2048, .f32⟩
  | 30 => ⟨S1x1x2048, .f32⟩
  | 31 => ⟨S4x4352x2048, .f32⟩
  | 32 => ⟨S4x4352x2048, .f32⟩
  | 33 => ⟨S4x4352x2048, .f32⟩
  | 34 => ⟨S4x4352x2048, .f32⟩
  | 35 => ⟨S_, .f32⟩
  | 36 => ⟨S4x4352x2048, .f32⟩
  | 37 => ⟨S4x4352x2048, .f32⟩
  | 38 => ⟨S_, .f32⟩
  | 39 => ⟨S4x4352x2048, .f32⟩
  | 40 => ⟨S4x4352x2048, .f32⟩
  | 41 => ⟨S_, .f32⟩
  | 42 => ⟨S4x4352x2048, .f32⟩
  | 43 => ⟨S4x4352x2048, .f32⟩
  | 44 => ⟨S1x1x2048, .f32⟩
  | 45 => ⟨S4x4352x2048, .f32⟩
  | 46 => ⟨S4x4352x2048, .f32⟩
  | 47 => ⟨S_, .f32⟩
  | 48 => ⟨S4x4352x2048, .f32⟩
  | 49 => ⟨S4x4352x2048, .f32⟩
  | 50 => ⟨S4x4352x2048, .f32⟩
  | 51 => ⟨S4x4352x480, .f32⟩
  | 52 => ⟨S4x4352x480, .f32⟩
  | 53 => ⟨S_, .f32⟩
  | 54 => ⟨S4x4352x480, .f32⟩
  | 55 => ⟨S4x4352x480, .f32⟩
  | 56 => ⟨S_, .f32⟩
  | 57 => ⟨S4x4352x480, .f32⟩
  | 58 => ⟨S4x4352x480, .f32⟩
  | 59 => ⟨S480x2048, .f32⟩
  | 60 => ⟨S4x4352x2048, .f32⟩
  | 61 => ⟨S4x4352x2048, .bf16⟩
  | 62 => ⟨S4x4352x2048, .bf16⟩
  | 63 => ⟨S4x4352x2048, .bf16⟩
  | 64 => ⟨S4x4352x2048, .bf16⟩
  | 65 => ⟨S4x4352x2048, .bf16⟩
  | _ => ⟨S4x4352x6912, .bf16⟩

abbrev hbmTy (i : Nat) : BufTy := match i / 128 with
  | 0 => hbmTy0_0 i
  | 1 => hbmTy0_1 i
  | _ => ⟨S4x4352x6912, .bf16⟩

abbrev bufTy : (tb : Table) → Fin (tcTables nBuf tb) → BufTy
  | .hbm, ⟨i, _⟩ => hbmTy i
  | _, _ => ⟨S4x4352x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_call2_v0 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_call3_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call4_cst : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_v59 : Ref sig .tc := ⟨.hbm, 90, rfl⟩
abbrev main_v60 : Ref sig .tc := ⟨.hbm, 91, rfl⟩
abbrev main_cst : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_3 : Ref sig .tc := ⟨.hbm, 107, rfl⟩
abbrev main_v75 : Ref sig .tc := ⟨.hbm, 108, rfl⟩
abbrev main_v76 : Ref sig .tc := ⟨.hbm, 109, rfl⟩
abbrev main_cst_4 : Ref sig .tc := ⟨.hbm, 110, rfl⟩
abbrev main_v77 : Ref sig .tc := ⟨.hbm, 111, rfl⟩
abbrev main_v78 : Ref sig .tc := ⟨.hbm, 112, rfl⟩
abbrev main_cst_5 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_6 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call5_cst : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_v97 : Ref sig .tc := ⟨.hbm, 146, rfl⟩
abbrev main_v98 : Ref sig .tc := ⟨.hbm, 147, rfl⟩
abbrev main_cst_7 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_8 : Ref sig .tc := ⟨.hbm, 163, rfl⟩
abbrev main_v113 : Ref sig .tc := ⟨.hbm, 164, rfl⟩
abbrev main_v114 : Ref sig .tc := ⟨.hbm, 165, rfl⟩
abbrev main_cst_9 : Ref sig .tc := ⟨.hbm, 166, rfl⟩
abbrev main_v115 : Ref sig .tc := ⟨.hbm, 167, rfl⟩
abbrev main_v116 : Ref sig .tc := ⟨.hbm, 168, rfl⟩
abbrev main_cst_10 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_11 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_12 : Ref sig .tc := ⟨.hbm, 181, rfl⟩
abbrev main_v127 : Ref sig .tc := ⟨.hbm, 182, rfl⟩
abbrev main_v128 : Ref sig .tc := ⟨.hbm, 183, rfl⟩
abbrev main_cst_13 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩

abbrev nD : Nat := 1
abbrev τ : Topo := Topo.v7x

variable {F : FTy → Type} [FloatOps F]
-- ==== Proof.Rows.lean ====
/- Pure facts about a row of the differential attention over the extended reals: with finite scores, values and mixing
   factor, dividing after the product with the values is dividing the weights before it. -/
module

public import Idealize.ShloMosaic.PureOps.Ideal

@[expose] public section

noncomputable section

namespace Cert.Rows

open Idealize.ShloMosaic

/-- The extended real `x` is a real number. -/
def Fin' (x : EReal) : Prop := ∃ r : ℝ, x = (r : EReal)

/-- The coercion of a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of real numbers is a real number. -/
theorem Fin'.dot {ι : Type*} [Fintype ι] (f g : ι → EReal) (hf : ∀ k, Fin' (f k)) (hg : ∀ k, Fin' (g k)) : Fin' (∑ k, f k * g k) := by
  choose a ha using hf
  choose b hb using hg
  exact ⟨∑ k, a k * b k, by rw [coe_sum]; exact Finset.sum_congr rfl fun k _ => by rw [ha, hb, EReal.coe_mul]⟩

/-- A sum of two products of real numbers, exponentiated or not, stays real. -/
theorem Fin'.exp {x : EReal} (h : Fin' x) : Fin' (Ideal.exp x) := by
  obtain ⟨r, rfl⟩ := h; exact ⟨Real.exp r, rfl⟩

/-- A sum of real numbers is real. -/
theorem Fin'.add {x y : EReal} (hx : Fin' x) (hy : Fin' y) : Fin' (x + y) := by
  obtain ⟨r, rfl⟩ := hx; obtain ⟨s, rfl⟩ := hy; exact ⟨r + s, (EReal.coe_add r s).symm⟩

/-- A difference of real numbers is real. -/
theorem Fin'.sub {x y : EReal} (hx : Fin' x) (hy : Fin' y) : Fin' (x - y) := by
  obtain ⟨r, rfl⟩ := hx; obtain ⟨s, rfl⟩ := hy; exact ⟨r - s, (EReal.coe_sub r s).symm⟩

/-- The largest of finitely many real numbers, at least one, is a real number. -/
theorem Fin'.fold_max {ι : Type*} [Fintype ι] [Nonempty ι] (f : ι → EReal) (hf : ∀ k, Fin' (f k)) :
    Fin' (Finset.univ.fold max ⊥ f) := by
  classical
  have hs : Finset.univ.fold max ⊥ f = Finset.univ.sup f := rfl
  have h1 : Finset.univ.sup f ≠ ⊤ := by
    refine ne_of_lt ((Finset.sup_lt_iff (by exact bot_lt_top)).2 fun k _ => ?_)
    obtain ⟨r, hr⟩ := hf k
    rw [hr]; exact EReal.coe_lt_top r
  have h2 : Finset.univ.sup f ≠ ⊥ := by
    obtain ⟨k⟩ := ‹Nonempty ι›
    obtain ⟨r, hr⟩ := hf k
    have := Finset.le_sup (f := f) (Finset.mem_univ k)
    intro hb
    rw [hb, hr, le_bot_iff] at this
    exact EReal.coe_ne_bot r this
  rw [hs]
  exact ⟨_, (EReal.coe_toReal h1 h2).symm⟩

/-- Division of real numbers by one that is not zero. -/
theorem div_real (a b : ℝ) (hb : b ≠ 0) : Ideal.div (a : EReal) (b : EReal) = ((a / b : ℝ) : EReal) := by
  rw [Ideal.div_coe hb, ← EReal.coe_mul]; congr 1; ring

/-- THE ROW: two softmax rows, each normalised after the product with the values and then mixed, against the mixed
    weights' product with the values. -/
theorem row {ι : Type*} [Fintype ι] [Nonempty ι] (s0 s1 v : ι → EReal) (M0 M1 lam : EReal)
    (h0 : ∀ k, Fin' (s0 k)) (h1 : ∀ k, Fin' (s1 k)) (hv : ∀ k, Fin' (v k)) (hM0 : Fin' M0) (hM1 : Fin' M1) (hl : Fin' lam) :
    Ideal.div (∑ k, Ideal.exp (s0 k - M0) * v k) (∑ k, Ideal.exp (s0 k - M0))
      - lam * Ideal.div (∑ k, Ideal.exp (s1 k - M1) * v k) (∑ k, Ideal.exp (s1 k - M1))
    = ∑ k, v k * (Ideal.div (Ideal.exp (s0 k - M0)) (∑ j, Ideal.exp (s0 j - M0))
        - lam * Ideal.div (Ideal.exp (s1 k - M1)) (∑ j, Ideal.exp (s1 j - M1))) := by
  choose a0 e0 using h0
  choose a1 e1 using h1
  choose b eb using hv
  obtain ⟨m0, rfl⟩ := hM0
  obtain ⟨m1, rfl⟩ := hM1
  obtain ⟨l, rfl⟩ := hl
  have p0 : (0 : ℝ) < ∑ k, Real.exp (a0 k - m0) := Finset.sum_pos (fun k _ => Real.exp_pos _) Finset.univ_nonempty
  have p1 : (0 : ℝ) < ∑ k, Real.exp (a1 k - m1) := Finset.sum_pos (fun k _ => Real.exp_pos _) Finset.univ_nonempty
  simp only [e0, e1, eb, ← EReal.coe_sub, Ideal.exp_coe, ← EReal.coe_mul, ← coe_sum, div_real _ _ p0.ne', div_real _ _ p1.ne']
  congr 1
  rw [Finset.sum_div, Finset.sum_div, Finset.mul_sum, ← Finset.sum_sub_distrib]
  exact Finset.sum_congr rfl fun k _ => by ring

/-- The word of minus infinity. -/
theorem ninf : Ideal.ofBits .f32 0xFF800000#32 = (⊥ : EReal) := by
  simp [Ideal.ofBits, Ideal.ieee]

/-- A softmax row, unnormalised. -/
def EX (s : Fin 4352 → EReal) (r : Fin 4352) : EReal := Ideal.exp (s r - Finset.fold max ⊥ s Finset.univ)

/-- The mixed rows' product with the values: the two softmax rows, the second taken `lam` times from the first. -/
def MIX (lam : EReal) (s0 s1 v : Fin 4352 → EReal) : EReal :=
  ∑ r, v r * (Ideal.div (EX s0 r) (∑ j, EX s0 j) - lam * Ideal.div (EX s1 r) (∑ j, EX s1 j))

/-- The root mean square normalisation of a row at one of its places. -/
def NORM (o : Fin 256 → EReal) (e : Fin 256) : EReal :=
  o e * Ideal.rsqrt (Ideal.div (∑ x, o x * o x) (Ideal.ofBits .f32 0x43800000#32) + Ideal.ofBits .f32 0x358637BD#32)

end Cert.Rows

end

end
-- ==== Proof.AttnRef.lean ====
/- The reference's differential attention at an index. -/
module

public import proofs.«01_k».proof.Proof.Rows
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.ReferenceIdeal.Read Cert.Rows

/-- The scores at an index. -/
theorem sc_at (q k : FVec Ideal S4x4352x2048 .bf16) (b : Fin 4) (h : Fin 8) (n : Fin 2) (i : Fin 4096) (r i' : Fin 4352) (hi : i'.val = 256 + i.val)
    (y : Fin 128 → Fin 2048) (hy : ∀ x, (y x).val = h.val * 256 + (n.val * 128 + x.val)) :
    val_main_v24 (F := Ideal) q k (ix5 b h n i r) = ∑ x : Fin 128, (q (ix3 b i' (y x)) : EReal) * k (ix3 b r (y x)) := by
  rw [val_main_v24_apply]
  refine Finset.sum_congr rfl fun x _ => congrArg₂ (· * ·) ?_ ?_
  · rw [val_main_v19_apply, val_main_v18_apply, val_main_v17_apply]
    have := hy x
    exact congrArg q (by blk_ext)
  · rw [val_main_v21_apply, val_main_v20_apply]
    have := hy x
    exact congrArg k (by blk_ext)

/-- The largest score of a row. -/
theorem mx_at (q k : FVec Ideal S4x4352x2048 .bf16) (b : Fin 4) (h : Fin 8) (n : Fin 2) (i : Fin 4096) :
    val_main_v27 (F := Ideal) q k (ix4 b h n i) = Finset.fold max ⊥ (fun r : Fin 4352 => val_main_v24 (F := Ideal) q k (ix5 b h n i r)) Finset.univ := by
  rw [val_main_v27_apply, val_main_v26_apply, val_main_cst_3_apply]
  unfold val_main_v25
  generalize val_main_v24 (F := Ideal) q k = s
  pointwise [val_main_cst_2]
  rw [ninf]
  exact max_eq_right bot_le

/-- The weights before their division. -/
theorem ex_at (q k : FVec Ideal S4x4352x2048 .bf16) (b : Fin 4) (h : Fin 8) (n : Fin 2) (i : Fin 4096) (r : Fin 4352) :
    val_main_v31 (F := Ideal) q k (ix5 b h n i r) = EX (fun r => val_main_v24 (F := Ideal) q k (ix5 b h n i r)) r := by
  rw [val_main_v31_apply, val_main_v30_apply, val_main_v29_apply, val_main_v28_apply,
    show idx_main_v28 (idx_main_v29 (ix5 b h n i r)) = ix4 b h n i from by blk_ext, mx_at]
  rfl

/-- The softmax at an index. -/
theorem sm_at (q k : FVec Ideal S4x4352x2048 .bf16) (b : Fin 4) (h : Fin 8) (n : Fin 2) (i : Fin 4096) (r : Fin 4352) :
    val_main_v35 (F := Ideal) q k (ix5 b h n i r) = Ideal.div (EX (fun r => val_main_v24 (F := Ideal) q k (ix5 b h n i r)) r)
      (∑ j, EX (fun r => val_main_v24 (F := Ideal) q k (ix5 b h n i r)) j) := by
  have z : (val_main_cst_4 (F := Ideal) (Shape.Idx.first h_S_) : EReal) = 0 := by
    show Ideal.ofBits .f32 0x00000000#32 = 0
    simp [Ideal.ofBits, Ideal.ieee]
  rw [val_main_v35_apply, val_main_v34_apply, val_main_v33_apply, val_main_v32_apply, z, zero_add, ex_at]
  refine congrArg (Ideal.div _) (Finset.sum_congr rfl fun j _ => ?_)
  rw [show idx_main_v32 (idx_main_v33 (idx_main_v34 (ix5 b h n i r))) j = ix5 b h n i j from by blk_ext, ex_at]

/-- The mixed attention at an index. -/
theorem mix_at (q k v : FVec Ideal S4x4352x2048 .bf16) (l : FVec Ideal S1x4x128 .f32) (b : Fin 4) (i : Fin 4096) (h : Fin 8) (e : Fin 256)
    (y : Fin 2048) (hy : y.val = h.val * 256 + e.val) :
    val_main_v44 (F := Ideal) q k v l (ix4 b i h e) = MIX (val_main_v16 (F := Ideal) l (Shape.Idx.first h_S_))
      (fun r => val_main_v24 (F := Ideal) q k (ix5 b h 0 i r)) (fun r => val_main_v24 (F := Ideal) q k (ix5 b h 1 i r)) (fun r => v (ix3 b r y)) := by
  rw [val_main_v44_apply, val_main_v43_apply]
  unfold MIX
  refine Finset.sum_congr rfl fun r _ => congrArg₂ (· * ·) ?_ ?_
  · rw [val_main_v23_apply, val_main_v22_apply]
    exact congrArg v (by blk_ext)
  · rw [val_main_v42_apply, val_main_v41_apply, val_main_v40_apply, val_main_v39_apply, val_main_v38_apply, val_main_v37_apply, val_main_v36_apply,
      show idx_main_v36 (idx_main_v37 (ridx_main_v43 (idx_main_v44 (ix4 b i h e)) r)) = ix5 b h 0 i r from by blk_ext,
      show idx_main_v38 (idx_main_v39 (ridx_main_v43 (idx_main_v44 (ix4 b i h e)) r)) = ix5 b h 1 i r from by blk_ext, sm_at, sm_at]
    rw [show idx_main_v40 (ridx_main_v43 (idx_main_v44 (ix4 b i h e)) r) = Shape.Idx.first h_S_ from funext fun a => a.elim0]
    rfl

/-- The norm of the heads at an index. -/
theorem norm_at (q k v : FVec Ideal S4x4352x2048 .bf16) (l : FVec Ideal S1x4x128 .f32) (b : Fin 4) (i : Fin 4096) (h : Fin 8) (e : Fin 256) :
    val_main_v54 (F := Ideal) q k v l (ix4 b i h e) = NORM (fun x => val_main_v44 (F := Ideal) q k v l (ix4 b i h x)) e := by
  have z : (val_main_cst_5 (F := Ideal) (Shape.Idx.first h_S_) : EReal) = 0 := by
    show Ideal.ofBits .f32 0x00000000#32 = 0
    simp [Ideal.ofBits, Ideal.ieee]
  rw [val_main_v54_apply, val_main_v53_apply, val_main_v52_apply, val_main_v51_apply, val_main_v49_apply, val_main_v50_apply, val_main_v48_apply,
    val_main_v47_apply, val_main_v46_apply, z, zero_add]
  refine congrArg (_ * ·) (congrArg Ideal.rsqrt (congrArg₂ (· + ·) (congrArg₂ Ideal.div (Finset.sum_congr rfl fun x _ => ?_) rfl) rfl))
  rw [show idx_main_v46 (idx_main_v47 (idx_main_v53 (ix4 b i h e))) x = ix4 b i h x from by blk_ext, val_main_v45_apply]
  rfl

/-- The result at an index. -/
theorem res_at (q k v : FVec Ideal S4x4352x2048 .bf16) (l : FVec Ideal S1x4x128 .f32) (g : FVec Ideal S1x256 .f32) (b : Fin 4) (i : Fin 4096) (h : Fin 8) (e : Fin 256) (y : Fin 2048)
    (hy : y.val = h.val * 256 + e.val) :
    val_main_v62 (F := Ideal) q k v l g (ix3 b i y) = NORM (fun x => val_main_v44 (F := Ideal) q k v l (ix4 b i h x)) e
      * g (ix2 0 e) * Ideal.ofBits .f32 0x3F4CCCCD#32 := by
  rw [val_main_v62_apply, val_main_v61_apply]
  rw [show idx_main_v61 (ix3 b i y) = ix4 b i h e from by blk_ext, val_main_v60_apply, val_main_v58_apply, norm_at]
  refine congrArg₂ (· * ·) (congrArg₂ (· * ·) rfl ?_) ?_
  · pointwise [val_main_v57, val_main_v56, val_main_v55]
  · rw [val_main_v59_apply]; rfl

end Cert.ReferenceIdeal.Value

end
-- ==== Proof.Attn.lean ====
/- The differential attention: after its run the result array is the reference's, for finite arguments. -/
module

public import proofs.«01_k».proof.Proof.AttnRef
public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Rows

variable (m : (ℓ : Loc nD τ sig) → Buf (Elt Ideal) ℓ)

/-- The reference's result as a function of the arguments. -/
abbrev REF (q k v : FVec Ideal S4x4352x2048 .bf16) (l : FVec Ideal S1x4x128 .f32) (g : FVec Ideal S1x256 .f32) : FVec Ideal S4x4096x2048 .bf16 :=
  Cert.ReferenceIdeal.Read.val_main_v62 (F := Ideal) q k v l g

/-- The blocks that the windows stage at a point, over the whole grid. -/
theorem idx : ∀ t : Fin cfg0.N, win0_1.index t = ![t.val / 128, t.val % 16 + 1, t.val / 16 % 8]
    ∧ win0_2.index t = ![t.val / 128, 0, t.val / 16 % 8] ∧ win0_3.index t = ![t.val / 128, 0, t.val / 16 % 8]
    ∧ win0_4.index t = ![0, 0]
    ∧ win0_5.index t = ![t.val / 128, t.val % 16, t.val / 16 % 8] :=
  (by decide +kernel : ∀ t : Fin grid0.N, _)

/-- The scores of a row of a block against all rows, `n` columns into the head's two. -/
def SC (n : ℕ) (hn : n ≤ 128) (q : Vec Ideal S1x256x256 .bf16) (k : Vec Ideal S1x4352x256 .bf16) (i : Fin 256) (r : Fin 4352) : EReal :=
  ∑ x : Fin 128, (q (ix3 0 i ⟨n + x.val, by omega⟩) : EReal) * k (ix3 0 r ⟨n + x.val, by omega⟩)

/-- The body's arithmetic is the mixed rows' product with the values, when all is finite. -/
theorem pay2_at (lam : EReal) (q : Vec Ideal S1x256x256 .bf16) (k v : Vec Ideal S1x4352x256 .bf16) (i e : Fin 256)
    (hl : Cert.Rows.Fin' lam) (hq : ∀ j, Cert.Rows.Fin' (q j)) (hk : ∀ j, Cert.Rows.Fin' (k j)) (hv : ∀ j, Cert.Rows.Fin' (v j)) :
    k0_pay2 (F := Ideal) lam q k v (ix2 i e)
      = MIX lam (SC 0 (by decide) q k i) (SC 128 (by decide) q k i) (fun r => v (ix3 0 r e)) := by
  have f0 : ∀ r, Cert.Rows.Fin' (SC 0 (by decide) q k i r) := fun r => Cert.Rows.Fin'.dot _ _ (fun _ => hq _) (fun _ => hk _)
  have f1 : ∀ r, Cert.Rows.Fin' (SC 128 (by decide) q k i r) := fun r => Cert.Rows.Fin'.dot _ _ (fun _ => hq _) (fun _ => hk _)
  have M0 := Cert.Rows.Fin'.fold_max (SC 0 (by decide) q k i) f0
  have M1 := Cert.Rows.Fin'.fold_max (SC 128 (by decide) q k i) f1
  refine Eq.trans ?_ (Cert.Rows.row (SC 0 (by decide) q k i) (SC 128 (by decide) q k i) (fun r => v (ix3 0 r e)) _ _ lam f0 f1 (fun r => hv _) M0 M1 hl)
  unfold SC
  rw [← ninf]
  simp only [Nat.zero_add]
  pointwise [k0_pay2]

/-- The norm of the mixed heads at an index of the block. -/
theorem pay1_at (o : FVec Ideal S256x256 .f32) (g : Vec Ideal S1x256 .f32) (i e : Fin 256) :
    k0_pay1 (F := Ideal) o g (ix3 0 i e) = NORM (fun x => o (ix2 i x)) e * g (ix2 0 e) := by
  unfold NORM
  pointwise [k0_pay1]

/-- The mixing factor of the reference. -/
abbrev LAM (l : FVec Ideal S1x4x128 .f32) : EReal :=
  Cert.ReferenceIdeal.Read.val_main_v16 (F := Ideal) l (Shape.Idx.first Cert.ReferenceIdeal.Gen.h_S_)

/-- The initial mixing factor is a real number. -/
theorem cfin : Ideal.ofBits .f32 0x3E4CCCCD#32 = (((13421773 : ℝ) * (2:ℝ)^(-26 : ℤ) : ℝ) : EReal) := by
  simp [Ideal.ofBits, Ideal.ieee]

/-- The mixing factor is finite when the learned vectors are. -/
theorem lam_fin (l : FVec Ideal S1x4x128 .f32) (hl : ∀ j, Cert.Rows.Fin' (l j)) : Cert.Rows.Fin' (LAM l) := by
  unfold LAM Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  pointwise [Cert.ReferenceIdeal.Read.val_main_cst_1, Cert.ReferenceIdeal.Read.val_main_cst, Cert.ReferenceIdeal.Read.val_main_cst_0]
  refine (Fin'.add (Fin'.sub (Fin'.exp ?_) (Fin'.exp ?_)) ⟨_, cfin⟩)
  · exact Fin'.dot _ _ (fun _ => hl _) (fun _ => hl _)
  · exact Fin'.dot _ _ (fun _ => hl _) (fun _ => hl _)

/-- The kernel's mixing factor is the reference's. -/
theorem lam_eq (c : Dev nD) (t : Fin cfg0.N) :
    View.ld (iblk m c 0 t) (Rect.unit ![0] ![1] inb_S1_S1_0) (Shape.Idx.first numel1_S1.symm.le) = LAM (m ((c : Thread nD τ).loc main_arg3)) := by
  blk_simp [iblk, View.ld]
  have h1 : ∀ z : S1.Idx, z = ix1 0 := fun z => by idx_vars z; blk_ext
  refine (congrArg (V m c main_v17) (h1 _)).trans ?_
  entry_read
  unfold LAM Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  pointwise [Cert.ReferenceIdeal.Read.val_main_cst_1, Cert.ReferenceIdeal.Read.val_main_cst, Cert.ReferenceIdeal.Read.val_main_cst_0]

/-- The queries' block. -/
theorem b1 (c : Dev nD) (t : Fin cfg0.N) (i x : Fin 256) (b : Fin 4) (r : Fin 4352) (y : Fin 2048)
    (hb : b.val = t.val / 128) (hr : r.val = 256 + (t.val % 16 * 256 + i.val)) (hy : y.val = t.val / 16 % 8 * 256 + x.val) :
    iblk m c 1 t (ix3 0 i x) = m ((c : Thread nD τ).loc main_arg0) (ix3 b r y) := by
  blk_simp [iblk]
  rw [show (win0_1.blk t).view.emb (ix3 0 i x) = ix3 b r y from by blk_ext [idx t]]
  entry_read
  rfl

/-- The keys' block. -/
theorem b2 (c : Dev nD) (t : Fin cfg0.N) (r : Fin 4352) (x : Fin 256) (b : Fin 4) (y : Fin 2048)
    (hb : b.val = t.val / 128) (hy : y.val = t.val / 16 % 8 * 256 + x.val) :
    iblk m c 2 t (ix3 0 r x) = m ((c : Thread nD τ).loc main_arg1) (ix3 b r y) := by
  blk_simp [iblk]
  rw [show (win0_2.blk t).view.emb (ix3 0 r x) = ix3 b r y from by blk_ext [idx t]]
  entry_read
  rfl

/-- The values' block. -/
theorem b3 (c : Dev nD) (t : Fin cfg0.N) (r : Fin 4352) (x : Fin 256) (b : Fin 4) (y : Fin 2048)
    (hb : b.val = t.val / 128) (hy : y.val = t.val / 16 % 8 * 256 + x.val) :
    iblk m c 3 t (ix3 0 r x) = m ((c : Thread nD τ).loc main_arg2) (ix3 b r y) := by
  blk_simp [iblk]
  rw [show (win0_3.blk t).view.emb (ix3 0 r x) = ix3 b r y from by blk_ext [idx t]]
  entry_read
  rfl

/-- The norm's weight: the learned one times one minus the initial mixing factor. -/
theorem b4 (c : Dev nD) (t : Fin cfg0.N) (e : Fin 256) (g : FVec Ideal S1x256 .f32) (hg : g = m ((c : Thread nD τ).loc main_arg4)) :
    iblk m c 4 t (ix2 0 e) = g (ix2 0 e) * Ideal.ofBits .f32 0x3F4CCCCD#32 := by
  rw [hg]
  blk_simp [iblk]
  rw [show (win0_4.blk t).view.emb (ix2 0 e) = ix2 0 e from by blk_ext [idx t]]
  entry_read
  pointwise

/-- The block's scores are the reference's. -/
theorem sc_blk (c : Dev nD) (t : Fin cfg0.N) (q k : FVec Ideal S4x4352x2048 .bf16)
    (hq : q = m ((c : Thread nD τ).loc main_arg0)) (hk : k = m ((c : Thread nD τ).loc main_arg1))
    (n : ℕ) (hn : n ≤ 128) (n' : Fin 2) (hn' : n = n'.val * 128) (i : Fin 256) (b : Fin 4) (h : Fin 8) (i' : Fin 4096)
    (hb : b.val = t.val / 128) (hh : h.val = t.val / 16 % 8) (hi : i'.val = t.val % 16 * 256 + i.val) (r : Fin 4352) :
    SC n hn (iblk m c 1 t) (iblk m c 2 t) i r = Cert.ReferenceIdeal.Read.val_main_v24 (F := Ideal) q k (ix5 b h n' i' r) := by
  rw [Cert.ReferenceIdeal.Value.sc_at q k b h n' i' r ⟨256 + i'.val, by omega⟩ rfl
    (fun x => ⟨h.val * 256 + (n'.val * 128 + x.val), by omega⟩) (fun _ => rfl)]
  unfold SC
  refine Finset.sum_congr rfl fun x _ => congrArg₂ (· * ·) ?_ ?_
  · rw [hq]; exact b1 m c t i _ b _ _ hb (by dsimp only; omega) (by dsimp only; omega)
  · rw [hk]; exact b2 m c t r _ b _ hb (by dsimp only; omega)

/-- The written block at an index is the reference's, when the arguments are finite. -/
theorem point (c : Dev nD) (t : Fin cfg0.N) (y : S1x256x256.Idx) (q k v : FVec Ideal S4x4352x2048 .bf16) (l : FVec Ideal S1x4x128 .f32) (g : FVec Ideal S1x256 .f32)
    (hq : q = m ((c : Thread nD τ).loc main_arg0)) (hk : k = m ((c : Thread nD τ).loc main_arg1)) (hv : v = m ((c : Thread nD τ).loc main_arg2))
    (hl : l = m ((c : Thread nD τ).loc main_arg3)) (hg : g = m ((c : Thread nD τ).loc main_arg4))
    (fq : ∀ j, Fin' (q j)) (fk : ∀ j, Fin' (k j)) (fv : ∀ j, Fin' (v j)) (fl : ∀ j, Fin' (l j)) :
    k0_pay1 (k0_pay2 (View.ld (iblk m c 0 t) (Rect.unit ![0] ![1] inb_S1_S1_0) (Shape.Idx.first numel1_S1.symm.le)) (iblk m c 1 t) (iblk m c 2 t) (iblk m c 3 t)) (iblk m c 4 t) y
    = REF q k v l g (((cfg0.win 5).blk t).view.emb y) := by
  have ht : t.val < 512 := t.isLt
  idx_vars y
  obtain ⟨b, hb⟩ : ∃ b : Fin 4, b.val = t.val / 128 := ⟨⟨t.val / 128, by omega⟩, rfl⟩
  obtain ⟨h, hh⟩ : ∃ h : Fin 8, h.val = t.val / 16 % 8 := ⟨⟨t.val / 16 % 8, by omega⟩, rfl⟩
  obtain ⟨i', hi⟩ : ∃ i' : Fin 4096, i'.val = t.val % 16 * 256 + y1.val := ⟨⟨t.val % 16 * 256 + y1.val, by omega⟩, rfl⟩
  obtain ⟨z, hz⟩ : ∃ z : Fin 2048, z.val = t.val / 16 % 8 * 256 + y2.val := ⟨⟨t.val / 16 % 8 * 256 + y2.val, by omega⟩, rfl⟩
  obtain rfl : y0 = 0 := Fin.ext (by omega)
  rw [show (((cfg0.win 5).blk t).view.emb (ix3 0 y1 y2)) = ix3 b i' z from by blk_ext [idx t]]
  unfold REF
  rw [Cert.ReferenceIdeal.Value.res_at q k v l g b i' h y2 z (by omega), pay1_at, b4 m c t y2 g hg, mul_assoc, lam_eq, ← hl]
  refine congrArg (· * _) (congrArg (fun f => NORM f y2) (funext fun x => ?_))
  rw [Cert.ReferenceIdeal.Value.mix_at q k v l b i' h x ⟨h.val * 256 + x.val, by omega⟩ rfl]
  have q1 : ∀ j : S1x256x256.Idx, Fin' (iblk m c 1 t j) := fun j => by
    idx_vars j
    obtain rfl : j0 = 0 := Fin.ext (by omega)
    rw [b1 m c t j1 j2 b ⟨256 + (t.val % 16 * 256 + j1.val), by omega⟩ ⟨t.val / 16 % 8 * 256 + j2.val, by omega⟩ hb rfl rfl, ← hq]; exact fq _
  have k1 : ∀ j : S1x4352x256.Idx, Fin' (iblk m c 2 t j) := fun j => by
    idx_vars j
    obtain rfl : j0 = 0 := Fin.ext (by omega)
    rw [b2 m c t j1 j2 b ⟨t.val / 16 % 8 * 256 + j2.val, by omega⟩ hb rfl, ← hk]; exact fk _
  have v1 : ∀ j : S1x4352x256.Idx, Fin' (iblk m c 3 t j) := fun j => by
    idx_vars j
    obtain rfl : j0 = 0 := Fin.ext (by omega)
    rw [b3 m c t j1 j2 b ⟨t.val / 16 % 8 * 256 + j2.val, by omega⟩ hb rfl, ← hv]; exact fv _
  refine (pay2_at (LAM l) (iblk m c 1 t) (iblk m c 2 t) (iblk m c 3 t) y1 x (lam_fin l fl) q1 k1 v1).trans ?_
  rw [show SC 0 (by decide) (iblk m c 1 t) (iblk m c 2 t) y1 = _ from funext fun r => sc_blk m c t q k hq hk 0 (by decide) 0 rfl y1 b h i' hb hh hi r,
    show SC 128 (by decide) (iblk m c 1 t) (iblk m c 2 t) y1 = _ from funext fun r => sc_blk m c t q k hq hk 128 (by decide) 1 rfl y1 b h i' hb hh hi r,
    show (fun r => iblk m c 3 t (ix3 0 r x)) = fun r => v (ix3 b r ⟨h.val * 256 + x.val, by omega⟩) from funext fun r => by
      rw [hv]; exact b3 m c t r x b _ hb (by dsimp only; omega)]

/-- The result array after the run, for finite arguments. -/
theorem final (c : Dev nD) (q k v : FVec Ideal S4x4352x2048 .bf16) (l : FVec Ideal S1x4x128 .f32) (g : FVec Ideal S1x256 .f32)
    (hq : q = m ((c : Thread nD τ).loc main_arg0)) (hk : k = m ((c : Thread nD τ).loc main_arg1)) (hv : v = m ((c : Thread nD τ).loc main_arg2))
    (hl : l = m ((c : Thread nD τ).loc main_arg3)) (hg : g = m ((c : Thread nD τ).loc main_arg4))
    (fq : ∀ j, Fin' (q j)) (fk : ∀ j, Fin' (k j)) (fv : ∀ j, Fin' (v j)) (fl : ∀ j, Fin' (l j)) :
    (dats m 0 c).arrAt 5 (cfgs 0).N = REF q k v l g := by
  refine (dats m 0 c).arrAt_eq_of_covers 5 _ (by decide +kernel) fun t _ y => ?_
  blk_simp
  rw [after0_5]
  unfold outsAt0
  frame_out
  exact point m c t y q k v l g hq hk hv hl hg fq fk fv fl

end Cert.KernelIdeal.Value

end
-- ==== Proof.FeatArgs.lean ====
/- The arrays that the features' call is given, entry by entry. -/
module

public import proofs.«01_k».proof.Proof.Gen.FeatIdeal.Value
public import Idealize.ShloMosaic.Lib.KernelVsHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FeatIdeal.Value

open Cert.FeatIdeal Cert.FeatIdeal.Gen

variable (m : (ℓ : Loc nD τ sig) → Buf (Elt Ideal) ℓ)

/-- The shift's weights, in the columns that are not padding. -/
theorem V1 (c : Dev nD) (d : Fin 2) (k : Fin 6912) (j : Fin 6880) (h : k.val = j.val) :
    V m c main_v1 (ix2 d k) = m ((c : Thread nD τ).loc main_arg1) (ix3 0 d j) := by
  rw [show k = ⟨j.val, by omega⟩ from Fin.ext h]
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise

/-- The gate's matrix, with rows of zeros below it. -/
theorem V4 (c : Dev nD) (j : Fin 512) (k : Fin 2048) :
    V m c main_v4 (ix2 j k) = if h : j.val < 480 then (m ((c : Thread nD τ).loc main_arg7) (ix3 0 ⟨j.val, h⟩ k) : EReal) else (0 : EReal) := by
  unfold V
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise
  split
  · rfl
  · simp [FloatOps.sitofp]

/-- The decay's bases. -/
theorem V5 (c : Dev nD) (d : Fin 2) (k : Fin 2048) :
    V m c main_v5 (ix2 d k) = m ((c : Thread nD τ).loc main_arg3) (ix3 0 d k) := by
  unfold V
  simp only [hostOps0, hostOps0_1, hostOps0_2, hostOps0_3, hostOps0_4, List.flatten_cons, List.flatten_nil, List.append_nil, List.cons_append, List.nil_append]
  entry_read
  pointwise

/-- The rates' bases. -/
theorem V6 (c : Dev nD) (d : Fin 2) (k : Fin 2048) :
    V m c main_v6 (ix2 d k) = m ((c : Thread nD τ).loc main_arg5) (ix3 0 d k) := by
  unfold V
  simp only [hostOps0, hostOps0_1, hostOps0_2, hostOps0_3, hostOps0_4, List.flatten_cons, List.flatten_nil, List.append_nil, List.cons_append, List.nil_append]
  entry_read
  pointwise

/-- The decay's matrices. -/
theorem V8 (c : Dev nD) (d : Fin 2) (j : Fin 128) (k : Fin 2048) :
    V m c main_v8 (ix3 d j k) = m ((c : Thread nD τ).loc main_arg4) (ix4 0 d j k) := by
  unfold V
  simp only [hostOps0, hostOps0_1, hostOps0_2, hostOps0_3, hostOps0_4, List.flatten_cons, List.flatten_nil, List.append_nil, List.cons_append, List.nil_append]
  entry_read
  pointwise

/-- The rates' matrices. -/
theorem V10 (c : Dev nD) (d : Fin 2) (j : Fin 128) (k : Fin 2048) :
    V m c main_v10 (ix3 d j k) = m ((c : Thread nD τ).loc main_arg6) (ix4 0 d j k) := by
  unfold V
  simp only [hostOps0, hostOps0_1, hostOps0_2, hostOps0_3, hostOps0_4, List.flatten_cons, List.flatten_nil, List.append_nil, List.cons_append, List.nil_append]
  entry_read
  pointwise

/-- The blocks that the windows stage at a point, over the whole grid. -/
theorem idx : ∀ t : Fin cfg0.N, win0_0.index t = ![t.val / 34, t.val % 34, 0] ∧ win0_1.index t = ![t.val / 34, t.val % 34 * 16 - 1, 0]
    ∧ win0_2.index t = ![t.val / 34, min (t.val % 34 * 16 + 16) 543, 0] ∧ win0_3.index t = ![0, 0] ∧ win0_4.index t = ![0, 0]
    ∧ win0_5.index t = ![0, 0] ∧ win0_6.index t = ![0, 0] ∧ win0_7.index t = ![0, 0, 0] ∧ win0_8.index t = ![0, 0, 0] ∧ win0_9.index t = ![0, 0]
    ∧ win0_12.index t = ![t.val / 34, t.val % 34, 0] ∧ win0_13.index t = ![t.val / 34, t.val % 34, 0]
    ∧ win0_15.index t = ![t.val / 34, t.val % 34, 0] ∧ win0_16.index t = ![t.val / 34, t.val % 34, 0]
    ∧ win0_19.index t = ![t.val / 34, t.val % 34, 0] ∧ win0_20.index t = ![t.val / 34, t.val % 34, 0] ∧ win0_22.index t = ![t.val / 34, t.val % 34, 0] :=
  (by decide +kernel : ∀ t : Fin grid0.N, _)

/-- The tokens' block. -/
theorem b0 (c : Dev nD) (t : Fin cfg0.N) (y : Fin 128) (k : Fin 6912) (b : Fin 4) (l : Fin 4352) (hb : b.val = t.val / 34) (hl : l.val = t.val % 34 * 128 + y.val) :
    iblk m c 0 t (ix3 0 y k) = m ((c : Thread nD τ).loc main_arg0) (ix3 b l k) := by
  blk_simp [iblk]
  rw [show (win0_0.blk t).view.emb (ix3 0 y k) = ix3 b l k from by blk_ext [idx t]]
  entry_read
  rfl

/-- The token before the block's first. -/
theorem b1 (c : Dev nD) (t : Fin cfg0.N) (k : Fin 6912) (b : Fin 4) (l : Fin 4352) (hb : b.val = t.val / 34) (hl : l.val + 1 = t.val % 34 * 128) :
    iblk m c 1 t (ix3 0 7 k) = m ((c : Thread nD τ).loc main_arg0) (ix3 b l k) := by
  blk_simp [iblk]
  rw [show (win0_1.blk t).view.emb (ix3 0 7 k) = ix3 b l k from by blk_ext [idx t]]
  entry_read
  rfl

/-- The token after the block's last. -/
theorem b2 (c : Dev nD) (t : Fin cfg0.N) (k : Fin 6912) (b : Fin 4) (l : Fin 4352) (hb : b.val = t.val / 34) (hl : l.val = t.val % 34 * 128 + 128) :
    iblk m c 2 t (ix3 0 0 k) = m ((c : Thread nD τ).loc main_arg0) (ix3 b l k) := by
  have hl' := l.isLt
  blk_simp [iblk]
  rw [show (win0_2.blk t).view.emb (ix3 0 0 k) = ix3 b l k from by blk_ext [idx t]]
  entry_read
  rfl

/-- The shift's weights. -/
theorem b3 (c : Dev nD) (t : Fin cfg0.N) (d : Fin 2) (k : Fin 6912) (j : Fin 6880) (h : k.val = j.val) :
    iblk m c 3 t (ix2 d k) = m ((c : Thread nD τ).loc main_arg1) (ix3 0 d j) := by
  blk_simp [iblk]
  rw [show (win0_3.blk t).view.emb (ix2 d k) = ix2 d k from by blk_ext [idx t]]
  exact V1 m c d k j h

/-- The correction's weights. -/
theorem b4 (c : Dev nD) (t : Fin cfg0.N) (d : Fin 3) (k : Fin 2048) :
    iblk m c 4 t (ix2 d k) = m ((c : Thread nD τ).loc main_arg2) (ix2 d k) := by
  blk_simp [iblk]
  rw [show (win0_4.blk t).view.emb (ix2 d k) = ix2 d k from by blk_ext [idx t]]
  entry_read
  rfl

/-- The decay's bases. -/
theorem b5 (c : Dev nD) (t : Fin cfg0.N) (d : Fin 2) (k : Fin 2048) :
    iblk m c 5 t (ix2 d k) = m ((c : Thread nD τ).loc main_arg3) (ix3 0 d k) := by
  blk_simp [iblk]
  rw [show (win0_5.blk t).view.emb (ix2 d k) = ix2 d k from by blk_ext [idx t]]
  exact V5 m c d k

/-- The rates' bases. -/
theorem b6 (c : Dev nD) (t : Fin cfg0.N) (d : Fin 2) (k : Fin 2048) :
    iblk m c 6 t (ix2 d k) = m ((c : Thread nD τ).loc main_arg5) (ix3 0 d k) := by
  blk_simp [iblk]
  rw [show (win0_6.blk t).view.emb (ix2 d k) = ix2 d k from by blk_ext [idx t]]
  exact V6 m c d k

/-- The decay's matrices. -/
theorem b7 (c : Dev nD) (t : Fin cfg0.N) (d : Fin 2) (j : Fin 128) (k : Fin 2048) :
    iblk m c 7 t (ix3 d j k) = m ((c : Thread nD τ).loc main_arg4) (ix4 0 d j k) := by
  blk_simp [iblk]
  rw [show (win0_7.blk t).view.emb (ix3 d j k) = ix3 d j k from by blk_ext [idx t]]
  exact V8 m c d j k

/-- The rates' matrices. -/
theorem b8 (c : Dev nD) (t : Fin cfg0.N) (d : Fin 2) (j : Fin 128) (k : Fin 2048) :
    iblk m c 8 t (ix3 d j k) = m ((c : Thread nD τ).loc main_arg6) (ix4 0 d j k) := by
  blk_simp [iblk]
  rw [show (win0_8.blk t).view.emb (ix3 d j k) = ix3 d j k from by blk_ext [idx t]]
  exact V10 m c d j k

/-- The gate's matrix. -/
theorem b9 (c : Dev nD) (t : Fin cfg0.N) (j : Fin 512) (k : Fin 2048) :
    iblk m c 9 t (ix2 j k) = if h : j.val < 480 then (m ((c : Thread nD τ).loc main_arg7) (ix3 0 ⟨j.val, h⟩ k) : EReal) else (0 : EReal) := by
  blk_simp [iblk]
  rw [show (win0_9.blk t).view.emb (ix2 j k) = ix2 j k from by blk_ext [idx t]]
  exact V4 m c j k

end Cert.FeatIdeal.Value

end
-- ==== Proof.FeatRef.lean ====
/- The reference of the RWKV heads' features, read entry by entry. -/
module

public import proofs.«01_k».proof.Proof.Gen.FeatRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FeatRefIdeal.Read

open Cert.FeatRefIdeal

/-- The token before, zero before the first of the context and before the first of the image. -/
def PREV (p : FVec Ideal S4x4352x6912 .bf16) (b : Fin 4) (l : Fin 4352) (c : Fin 6912) : EReal :=
  if l.val = 0 ∨ l.val = 256 then 0 else p (ix3 b ⟨l.val - 1, by omega⟩ c)

/-- The token after, zero after the last of the context and after the last of the image. -/
def NEXT (p : FVec Ideal S4x4352x6912 .bf16) (b : Fin 4) (l : Fin 4352) (c : Fin 6912) : EReal :=
  if h : l.val = 255 ∨ l.val = 4351 then 0 else p (ix3 b ⟨l.val + 1, by omega⟩ c)

/-- A token moved towards the tokens beside it. -/
def SHIFTED (p : FVec Ideal S4x4352x6912 .bf16) (s : FVec Ideal S1x2x6880 .f32) (b : Fin 4) (l : Fin 4352) (c : Fin 6880) : EReal :=
  p (ix3 b l ⟨c.val, by omega⟩) + s (ix3 0 0 c) * (PREV p b l ⟨c.val, by omega⟩ - p (ix3 b l ⟨c.val, by omega⟩))
    + s (ix3 0 1 c) * (NEXT p b l ⟨c.val, by omega⟩ - p (ix3 b l ⟨c.val, by omega⟩))

/-- The zero that the reference pads with. -/
theorem zero : (FloatOps.sitofp .f32 0#32 : Ideal .f32) = (0 : EReal) := by
  show (((0#32 : BitVec 32).toInt : ℝ) : EReal) = 0
  simp

/-- The context's token before. -/
theorem x10 (p : FVec Ideal S4x4352x6912 .bf16) (b : Fin 4) (l : Fin 256) (c : Fin 6880) (k : Fin 4352) (hk : k.val = l.val) :
    val_main_v10 (F := Ideal) p (ix3 b l c) = PREV p b k ⟨c.val, by omega⟩ := by
  rw [show k = ⟨l.val, by omega⟩ from Fin.ext hk, PREV]
  pointwise [val_main_v10, val_main_v9, val_main_v4, val_main_v3, val_main_v2, val_main_call0_v0, val_main_c]
  by_cases h : l.val = 0
  · exact ((dif_neg (by omega)).trans zero).trans (if_pos (Or.inl h)).symm
  · exact (dif_pos (by omega)).trans (if_neg (by omega)).symm

/-- The context's token after. -/
theorem x12 (p : FVec Ideal S4x4352x6912 .bf16) (b : Fin 4) (l : Fin 256) (c : Fin 6880) (k : Fin 4352) (hk : k.val = l.val) :
    val_main_v12 (F := Ideal) p (ix3 b l c) = NEXT p b k ⟨c.val, by omega⟩ := by
  rw [show k = ⟨l.val, by omega⟩ from Fin.ext hk, NEXT]
  pointwise [val_main_v12, val_main_v11, val_main_v4, val_main_v3, val_main_v2, val_main_call1_v0, val_main_c_0]
  by_cases h : l.val = 255
  · exact ((dif_neg (by omega)).trans zero).trans (dif_pos (Or.inl h)).symm
  · exact ((dif_pos (by omega)).trans (congrArg (fun n => p (ix3 b n ⟨c.val, by omega⟩)) (Fin.ext (by show 1 + l.val = l.val + 1; omega)))).trans (dif_neg (by omega)).symm

/-- The image's token before. -/
theorem x29 (p : FVec Ideal S4x4352x6912 .bf16) (b : Fin 4) (l : Fin 4096) (c : Fin 6880) (k : Fin 4352) (hk : k.val = 256 + l.val) :
    val_main_v29 (F := Ideal) p (ix3 b l c) = PREV p b k ⟨c.val, by omega⟩ := by
  rw [show k = ⟨256 + l.val, by omega⟩ from Fin.ext hk, PREV]
  pointwise [val_main_v29, val_main_v28, val_main_v23, val_main_v3, val_main_v2, val_main_call2_v0, val_main_c_1]
  by_cases h : l.val = 0
  · exact ((dif_neg (by omega)).trans zero).trans (if_pos (Or.inr (by show 256 + l.val = 256; omega))).symm
  · exact ((dif_pos (by omega)).trans (congrArg (fun n => p (ix3 b n ⟨c.val, by omega⟩)) (Fin.ext (by show 256 + (l.val - 1) = 256 + l.val - 1; omega)))).trans (if_neg (by omega)).symm

/-- The image's token after. -/
theorem x31 (p : FVec Ideal S4x4352x6912 .bf16) (b : Fin 4) (l : Fin 4096) (c : Fin 6880) (k : Fin 4352) (hk : k.val = 256 + l.val) :
    val_main_v31 (F := Ideal) p (ix3 b l c) = NEXT p b k ⟨c.val, by omega⟩ := by
  rw [show k = ⟨256 + l.val, by omega⟩ from Fin.ext hk, NEXT]
  pointwise [val_main_v31, val_main_v30, val_main_v23, val_main_v3, val_main_v2, val_main_call3_v0, val_main_c_2]
  by_cases h : l.val = 4095
  · exact ((dif_neg (by omega)).trans zero).trans (dif_pos (Or.inr (by show 256 + l.val = 4351; omega))).symm
  · exact ((dif_pos (by omega)).trans (congrArg (fun n => p (ix3 b n ⟨c.val, by omega⟩)) (Fin.ext (by show 256 + (1 + l.val) = 256 + l.val + 1; omega)))).trans (dif_neg (by omega)).symm

/-- The context's shifted tokens. -/
theorem x22 (p : FVec Ideal S4x4352x6912 .bf16) (s : FVec Ideal S1x2x6880 .f32) (b : Fin 4) (l : Fin 256) (c : Fin 6880) (k : Fin 4352) (hk : k.val = l.val) :
    val_main_v22 (F := Ideal) p s (ix3 b l c) = SHIFTED p s b k c := by
  have e := x10 p b l c k hk
  have e' := x12 p b l c k hk
  rw [show k = ⟨l.val, by omega⟩ from Fin.ext hk] at e e' ⊢
  pointwise [val_main_v22, val_main_v21, val_main_v20, val_main_v19, val_main_v18, val_main_v17, val_main_v16, val_main_v15, val_main_v14, val_main_v13, val_main_v4, val_main_v3, val_main_v2, val_main_v5, val_main_v6, val_main_v7, val_main_v8]
  rw [e, e', SHIFTED]

/-- The image's shifted tokens. -/
theorem x41 (p : FVec Ideal S4x4352x6912 .bf16) (s : FVec Ideal S1x2x6880 .f32) (b : Fin 4) (l : Fin 4096) (c : Fin 6880) (k : Fin 4352) (hk : k.val = 256 + l.val) :
    val_main_v41 (F := Ideal) p s (ix3 b l c) = SHIFTED p s b k c := by
  have e := x29 p b l c k hk
  have e' := x31 p b l c k hk
  rw [show k = ⟨256 + l.val, by omega⟩ from Fin.ext hk] at e e' ⊢
  pointwise [val_main_v41, val_main_v40, val_main_v39, val_main_v38, val_main_v37, val_main_v36, val_main_v35, val_main_v34, val_main_v33, val_main_v32, val_main_v23, val_main_v3, val_main_v2, val_main_v24, val_main_v25, val_main_v26, val_main_v27]
  rw [e, e', SHIFTED]

/-- The shifted tokens, the context's before the image's. -/
theorem x42 (p : FVec Ideal S4x4352x6912 .bf16) (s : FVec Ideal S1x2x6880 .f32) (b : Fin 4) (l : Fin 4352) (c : Fin 6880) :
    val_main_v42 (F := Ideal) p s (ix3 b l c) = SHIFTED p s b l c := by
  pointwise [val_main_v42]
  by_cases h : l.val < 256
  · exact (dif_pos h).trans (x22 p s b ⟨l.val, h⟩ c l rfl)
  · exact (dif_neg h).trans (x41 p s b ⟨l.val - 256, by omega⟩ c l (by show l.val = 256 + (l.val - 256); omega))

end Cert.FeatRefIdeal.Read

end
-- ==== Proof.FeatRes.lean ====
/- The results of the RWKV heads' features in the reference, entry by entry. -/
module

public import proofs.«01_k».proof.Proof.FeatRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FeatRefIdeal.Read

open Cert.FeatRefIdeal

/-- What the decay of direction `d` is taken of: the base and a matrix applied to the `tanh` of 128 columns. -/
def LOGIT (p : FVec Ideal S4x4352x6912 .bf16) (s : FVec Ideal S1x2x6880 .f32) (w0 : FVec Ideal S1x2x2048 .f32) (w2 : FVec Ideal S1x2x128x2048 .f32) (d : Fin 2) (b : Fin 4) (l : Fin 4352) (c : Fin 2048) : EReal :=
  w0 (ix3 0 d c) + ∑ x : Fin 128, Ideal.tanh (SHIFTED p s b l ⟨6144 + x.val, by omega⟩) * w2 (ix4 0 d x c)

/-- The logarithm of the decay from its logit, as the reference writes it. -/
def LW (w : EReal) : EReal :=
  -Ideal.exp (-(if -w ≠ -w then -w else max (-w) 0 + Ideal.log1p (Ideal.exp (-FloatOps.absf (F := Ideal) (φ := .f32) (-w)))) - Ideal.ofBits FTy.f32 1056964608#32)

/-- What the rate of direction `d` is taken of: the base and a matrix applied to 128 columns. -/
def RATE (p : FVec Ideal S4x4352x6912 .bf16) (s : FVec Ideal S1x2x6880 .f32) (w0 : FVec Ideal S1x2x2048 .f32) (w2 : FVec Ideal S1x2x128x2048 .f32) (d : Fin 2) (b : Fin 4) (l : Fin 4352) (c : Fin 2048) : EReal :=
  w0 (ix3 0 d c) + ∑ x : Fin 128, SHIFTED p s b l ⟨6272 + x.val, by omega⟩ * w2 (ix4 0 d x c)

/-- The key after its correction by the rate. -/
def KD (k a v : EReal) : EReal := k * (1 + (Ideal.div 1 (1 + Ideal.exp (-a)) - 1) * v)

/-- The gate: a matrix applied to the logistic of 480 columns. -/
def GATE (p : FVec Ideal S4x4352x6912 .bf16) (s : FVec Ideal S1x2x6880 .f32) (g : FVec Ideal S1x480x2048 .f32) (b : Fin 4) (l : Fin 4352) (c : Fin 2048) : EReal :=
  ∑ x : Fin 480, Ideal.div 1 (1 + Ideal.exp (-SHIFTED p s b l ⟨6400 + x.val, by omega⟩)) * g (ix3 0 x c)

/-- The receptance. -/
theorem r133 (p : FVec Ideal S4x4352x6912 .bf16) (s : FVec Ideal S1x2x6880 .f32) (b : Fin 4) (l : Fin 4352) (c : Fin 2048) : val_main_v133 (F := Ideal) p s (ix3 b l c) = SHIFTED p s b l ⟨c.val, by omega⟩ := by
  have e := x42 p s b l ⟨c.val, by omega⟩
  pointwise [val_main_v133, val_main_v43]
  exact e

/-- The value. -/
theorem r134 (p : FVec Ideal S4x4352x6912 .bf16) (s : FVec Ideal S1x2x6880 .f32) (b : Fin 4) (l : Fin 4352) (c : Fin 2048) : val_main_v134 (F := Ideal) p s (ix3 b l c) = SHIFTED p s b l ⟨4096 + c.val, by omega⟩ := by
  have e := x42 p s b l ⟨4096 + c.val, by omega⟩
  pointwise [val_main_v134, val_main_v45]
  exact e

/-- The matrix's product in the decay of direction 0. -/
theorem r54 (p : FVec Ideal S4x4352x6912 .bf16) (s : FVec Ideal S1x2x6880 .f32) (w2 : FVec Ideal S1x2x128x2048 .f32) (b : Fin 4) (l : Fin 4352) (c : Fin 2048) :
    val_main_v54 (F := Ideal) p s w2 (ix3 b l c) = ∑ x : Fin 128, Ideal.tanh (SHIFTED p s b l ⟨6144 + x.val, by omega⟩) * w2 (ix4 0 0 x c) := by
  rw [val_main_v54_apply]
  refine Finset.sum_congr rfl fun x _ => ?_
  rw [show lidx_main_v54 (ix3 b l c) x = ix3 b l x from by blk_ext, show ridx_main_v54 (ix3 b l c) x = ix2 x c from by blk_ext]
  refine congrArg₂ (· * ·) ?_ (by pointwise [val_main_v53, val_main_v52])
  have e := x42 p s b l ⟨6144 + x.val, by omega⟩
  pointwise [val_main_v51, val_main_v46]
  exact congrArg Ideal.tanh e

/-- The logit of direction 0. -/
theorem r57 (p : FVec Ideal S4x4352x6912 .bf16) (s : FVec Ideal S1x2x6880 .f32) (w0 : FVec Ideal S1x2x2048 .f32) (w2 : FVec Ideal S1x2x128x2048 .f32) (b : Fin 4) (l : Fin 4352) (c : Fin 2048) : val_main_v57 (F := Ideal) p s w0 w2 (ix3 b l c) = LOGIT p s w0 w2 0 b l c := by
  have e := r54 p s w2 b l c
  pointwise [val_main_v57, val_main_v49, val_main_v50, val_main_v55, val_main_v56]
  rw [e, LOGIT]

/-- The logarithm of the decay of direction 0. -/
theorem r64 (p : FVec Ideal S4x4352x6912 .bf16) (s : FVec Ideal S1x2x6880 .f32) (w0 : FVec Ideal S1x2x2048 .f32) (w2 : FVec Ideal S1x2x128x2048 .f32) (b : Fin 4) (l : Fin 4352) (c : Fin 2048) : val_main_v64 (F := Ideal) p s w0 w2 (ix3 b l c) = LW (LOGIT p s w0 w2 0 b l c) := by
  have e := r57 p s w0 w2 b l c
  pointwise [val_main_v58, val_main_v60, val_main_v61, val_main_v62, val_main_v63, val_main_v64, val_main_v59, val_main_call4_cst, val_main_call4_v0, val_main_call4_v1, val_main_call4_v2, val_main_call4_v3, val_main_call4_v4, val_main_call4_v5, val_main_call4_v6, val_main_call4_v7, val_main_call4_v8, val_main_call4_v9, val_main_call4_v10, val_main_call4_v11, val_main_cst]
  rw [e]
  rfl

/-- The matrix's product in the decay of direction 1. -/
theorem r92 (p : FVec Ideal S4x4352x6912 .bf16) (s : FVec Ideal S1x2x6880 .f32) (w2 : FVec Ideal S1x2x128x2048 .f32) (b : Fin 4) (l : Fin 4352) (c : Fin 2048) :
    val_main_v92 (F := Ideal) p s w2 (ix3 b l c) = ∑ x : Fin 128, Ideal.tanh (SHIFTED p s b l ⟨6144 + x.val, by omega⟩) * w2 (ix4 0 1 x c) := by
  rw [val_main_v92_apply]
  refine Finset.sum_congr rfl fun x _ => ?_
  rw [show lidx_main_v92 (ix3 b l c) x = ix3 b l x from by blk_ext, show ridx_main_v92 (ix3 b l c) x = ix2 x c from by blk_ext]
  refine congrArg₂ (· * ·) ?_ (by pointwise [val_main_v91, val_main_v90])
  have e := x42 p s b l ⟨6144 + x.val, by omega⟩
  pointwise [val_main_v89, val_main_v46]
  exact congrArg Ideal.tanh e

/-- The logit of direction 1. -/
theorem r95 (p : FVec Ideal S4x4352x6912 .bf16) (s : FVec Ideal S1x2x6880 .f32) (w0 : FVec Ideal S1x2x2048 .f32) (w2 : FVec Ideal S1x2x128x2048 .f32) (b : Fin 4) (l : Fin 4352) (c : Fin 2048) : val_main_v95 (F := Ideal) p s w0 w2 (ix3 b l c) = LOGIT p s w0 w2 1 b l c := by
  have e := r92 p s w2 b l c
  pointwise [val_main_v95, val_main_v87, val_main_v88, val_main_v93, val_main_v94]
  rw [e, LOGIT]

/-- The logarithm of the decay of direction 1. -/
theorem r102 (p : FVec Ideal S4x4352x6912 .bf16) (s : FVec Ideal S1x2x6880 .f32) (w0 : FVec Ideal S1x2x2048 .f32) (w2 : FVec Ideal S1x2x128x2048 .f32) (b : Fin 4) (l : Fin 4352) (c : Fin 2048) : val_main_v102 (F := Ideal) p s w0 w2 (ix3 b l c) = LW (LOGIT p s w0 w2 1 b l c) := by
  have e := r95 p s w0 w2 b l c
  pointwise [val_main_v96, val_main_v98, val_main_v99, val_main_v100, val_main_v101, val_main_v102, val_main_v97, val_main_call5_cst, val_main_call5_v0, val_main_call5_v1, val_main_call5_v2, val_main_call5_v3, val_main_call5_v4, val_main_call5_v5, val_main_call5_v6, val_main_call5_v7, val_main_call5_v8, val_main_call5_v9, val_main_call5_v10, val_main_call5_v11, val_main_cst_7]
  rw [e]
  rfl

/-- The matrix's product in the rate of direction 0. -/
theorem r69 (p : FVec Ideal S4x4352x6912 .bf16) (s : FVec Ideal S1x2x6880 .f32) (w2 : FVec Ideal S1x2x128x2048 .f32) (b : Fin 4) (l : Fin 4352) (c : Fin 2048) :
    val_main_v69 (F := Ideal) p s w2 (ix3 b l c) = ∑ x : Fin 128, SHIFTED p s b l ⟨6272 + x.val, by omega⟩ * w2 (ix4 0 0 x c) := by
  rw [val_main_v69_apply]
  refine Finset.sum_congr rfl fun x _ => ?_
  rw [show lidx_main_v69 (ix3 b l c) x = ix3 b l x from by blk_ext, show ridx_main_v69 (ix3 b l c) x = ix2 x c from by blk_ext]
  refine congrArg₂ (· * ·) ?_ (by pointwise [val_main_v68, val_main_v67])
  have e := x42 p s b l ⟨6272 + x.val, by omega⟩
  pointwise [val_main_v47]
  exact e

/-- The rate's logit of direction 0. -/
theorem r72 (p : FVec Ideal S4x4352x6912 .bf16) (s : FVec Ideal S1x2x6880 .f32) (w0 : FVec Ideal S1x2x2048 .f32) (w2 : FVec Ideal S1x2x128x2048 .f32) (b : Fin 4) (l : Fin 4352) (c : Fin 2048) : val_main_v72 (F := Ideal) p s w0 w2 (ix3 b l c) = RATE p s w0 w2 0 b l c := by
  have e := r69 p s w2 b l c
  pointwise [val_main_v72, val_main_v65, val_main_v66, val_main_v70, val_main_v71]
  rw [e, RATE]

/-- The corrected key of direction 0. -/
theorem r135 (p : FVec Ideal S4x4352x6912 .bf16) (s : FVec Ideal S1x2x6880 .f32) (v : FVec Ideal S3x2048 .f32) (w0 : FVec Ideal S1x2x2048 .f32) (w2 : FVec Ideal S1x2x128x2048 .f32) (b : Fin 4) (l : Fin 4352) (c : Fin 2048) :
    val_main_v135 (F := Ideal) p s v w0 w2 (ix3 b l c) = KD (SHIFTED p s b l ⟨2048 + c.val, by omega⟩) (RATE p s w0 w2 0 b l c) (v (ix2 1 c)) := by
  have e := r72 p s w0 w2 b l c
  have e' := x42 p s b l ⟨2048 + c.val, by omega⟩
  pointwise [val_main_v135, val_main_v44, val_main_v0, val_main_v1, val_main_v73, val_main_v74, val_main_v75, val_main_v76, val_main_v77, val_main_v78, val_main_v79, val_main_v80, val_main_v81, val_main_v82, val_main_v83, val_main_v84, val_main_v85, val_main_v86, val_main_cst_3, val_main_cst_4, val_main_cst_5, val_main_cst_6]
  rw [e, e']
  rfl

/-- The matrix's product in the rate of direction 1. -/
theorem r107 (p : FVec Ideal S4x4352x6912 .bf16) (s : FVec Ideal S1x2x6880 .f32) (w2 : FVec Ideal S1x2x128x2048 .f32) (b : Fin 4) (l : Fin 4352) (c : Fin 2048) :
    val_main_v107 (F := Ideal) p s w2 (ix3 b l c) = ∑ x : Fin 128, SHIFTED p s b l ⟨6272 + x.val, by omega⟩ * w2 (ix4 0 1 x c) := by
  rw [val_main_v107_apply]
  refine Finset.sum_congr rfl fun x _ => ?_
  rw [show lidx_main_v107 (ix3 b l c) x = ix3 b l x from by blk_ext, show ridx_main_v107 (ix3 b l c) x = ix2 x c from by blk_ext]
  refine congrArg₂ (· * ·) ?_ (by pointwise [val_main_v106, val_main_v105])
  have e := x42 p s b l ⟨6272 + x.val, by omega⟩
  pointwise [val_main_v47]
  exact e

/-- The rate's logit of direction 1. -/
theorem r110 (p : FVec Ideal S4x4352x6912 .bf16) (s : FVec Ideal S1x2x6880 .f32) (w0 : FVec Ideal S1x2x2048 .f32) (w2 : FVec Ideal S1x2x128x2048 .f32) (b : Fin 4) (l : Fin 4352) (c : Fin 2048) : val_main_v110 (F := Ideal) p s w0 w2 (ix3 b l c) = RATE p s w0 w2 1 b l c := by
  have e := r107 p s w2 b l c
  pointwise [val_main_v110, val_main_v103, val_main_v104, val_main_v108, val_main_v109]
  rw [e, RATE]

/-- The corrected key of direction 1. -/
theorem r136 (p : FVec Ideal S4x4352x6912 .bf16) (s : FVec Ideal S1x2x6880 .f32) (v : FVec Ideal S3x2048 .f32) (w0 : FVec Ideal S1x2x2048 .f32) (w2 : FVec Ideal S1x2x128x2048 .f32) (b : Fin 4) (l : Fin 4352) (c : Fin 2048) :
    val_main_v136 (F := Ideal) p s v w0 w2 (ix3 b l c) = KD (SHIFTED p s b l ⟨2048 + c.val, by omega⟩) (RATE p s w0 w2 1 b l c) (v (ix2 1 c)) := by
  have e := r110 p s w0 w2 b l c
  have e' := x42 p s b l ⟨2048 + c.val, by omega⟩
  pointwise [val_main_v136, val_main_v44, val_main_v0, val_main_v1, val_main_v111, val_main_v112, val_main_v113, val_main_v114, val_main_v115, val_main_v116, val_main_v117, val_main_v118, val_main_v119, val_main_v120, val_main_v121, val_main_v122, val_main_v123, val_main_v124, val_main_cst_8, val_main_cst_9, val_main_cst_10, val_main_cst_11]
  rw [e, e']
  rfl

/-- The gate's logistic. -/
theorem r130 (p : FVec Ideal S4x4352x6912 .bf16) (s : FVec Ideal S1x2x6880 .f32) (b : Fin 4) (l : Fin 4352) (x : Fin 480) :
    val_main_v130 (F := Ideal) p s (ix3 b l x) = Ideal.div 1 (1 + Ideal.exp (-SHIFTED p s b l ⟨6400 + x.val, by omega⟩)) := by
  have e := x42 p s b l ⟨6400 + x.val, by omega⟩
  pointwise [val_main_v48, val_main_v125, val_main_v126, val_main_v127, val_main_v128, val_main_v129, val_main_v130, val_main_cst_12, val_main_cst_13]
  rw [e]

/-- The gate. -/
theorem r137 (p : FVec Ideal S4x4352x6912 .bf16) (s : FVec Ideal S1x2x6880 .f32) (g : FVec Ideal S1x480x2048 .f32) (b : Fin 4) (l : Fin 4352) (c : Fin 2048) : val_main_v137 (F := Ideal) p s g (ix3 b l c) = GATE p s g b l c := by
  show val_main_v132 (F := Ideal) p s g (ix3 b l c) = _
  rw [val_main_v132_apply]
  refine Finset.sum_congr rfl fun x _ => ?_
  rw [show lidx_main_v132 (ix3 b l c) x = ix3 b l x from by blk_ext, show ridx_main_v132 (ix3 b l c) x = ix2 x c from by blk_ext]
  exact congrArg₂ (· * ·) (r130 p s b l x) (by pointwise [val_main_v131])

end Cert.FeatRefIdeal.Read

end
-- ==== Proof.FeatDecay.lean ====
/- The two ways of writing the logarithm of the decay. -/
module

public import proofs.«01_k».proof.Proof.FeatRes
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FeatRefIdeal.Read

open Cert.FeatRefIdeal

/-- The absolute value is never below zero. -/
theorem abs_nonneg (w : EReal) : (0 : EReal) ≤ FloatOps.absf (F := Ideal) (φ := .f32) w := by
  show (0 : EReal) ≤ max w (-w)
  rcases le_total 0 w with h | h
  · exact le_max_of_le_left h
  · exact le_max_of_le_right (EReal.neg_nonneg.mpr h)

/-- The logarithm in the decay is a real number. -/
theorem log_real (a : EReal) (h : 0 ≤ a) : ∃ r : ℝ, Ideal.log (1 + Ideal.exp (-a)) = (r : EReal) := by
  induction a using EReal.rec with
  | bot => exact absurd h (by simp)
  | top => exact ⟨Real.log 1, by
      rw [EReal.neg_top]
      show Ideal.log (1 + 0) = _
      rw [add_zero]
      show (if (1 : ℝ) ≤ 0 then (⊥ : EReal) else (Real.log 1 : EReal)) = _
      rw [if_neg (by norm_num)]⟩
  | coe r => exact ⟨Real.log (1 + Real.exp (-r)), by
      rw [← EReal.coe_neg]
      show Ideal.log (1 + ((Real.exp (-r) : ℝ) : EReal)) = _
      rw [← EReal.coe_one, ← EReal.coe_add]
      show (if 1 + Real.exp (-r) ≤ 0 then (⊥ : EReal) else (Real.log (1 + Real.exp (-r)) : EReal)) = _
      rw [if_neg (not_le.mpr (by positivity))]⟩

/-- The kernel's logarithm of the decay is the reference's. -/
theorem LW_eq (w : EReal) : (0 - Ideal.exp (min w 0 - Ideal.log (1 + Ideal.exp (0 - FloatOps.absf (F := Ideal) (φ := .f32) w)) - Ideal.ofBits FTy.f32 1056964608#32) : EReal) = LW w := by
  have ha : FloatOps.absf (F := Ideal) (φ := .f32) (-w) = FloatOps.absf (F := Ideal) (φ := .f32) w := by
    show max (-w) (- -w) = max w (-w)
    rw [neg_neg, max_comm]
  have hm : -max (-w) 0 = min w 0 := by
    rcases le_total w 0 with h | h
    · rw [max_eq_left (EReal.neg_nonneg.mpr h), min_eq_left h, neg_neg]
    · rw [max_eq_right (by simpa using EReal.neg_le_neg_iff.mpr h), min_eq_right h, neg_zero]
  obtain ⟨r, hr⟩ := log_real _ (abs_nonneg w)
  rw [LW, if_neg (fun h => h rfl), ha, show Ideal.log1p (Ideal.exp (-FloatOps.absf (F := Ideal) (φ := .f32) w)) = (r : EReal) from hr,
    EReal.neg_add (Or.inr (EReal.coe_ne_top r)) (Or.inr (EReal.coe_ne_bot r)), hm, zero_sub, zero_sub, hr]

end Cert.FeatRefIdeal.Read

end
-- ==== Proof.FeatKer.lean ====
/- The shifted tokens in the features' kernel. -/
module

public import proofs.«01_k».proof.Proof.FeatDecay
public import proofs.«01_k».proof.Proof.Gen.FeatIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FeatIdeal.Value

open Cert.FeatIdeal Cert.FeatIdeal.Gen
open Cert.FeatRefIdeal.Read (SHIFTED PREV NEXT)

variable (i : grid0.Coords) (x0 : Vec Ideal S1x128x6912 .bf16) (x1 : Vec Ideal S1x8x6912 .bf16) (x2 : Vec Ideal S1x8x6912 .bf16) (x3 : Vec Ideal S2x6912 .f32) (x4 : Vec Ideal S3x2048 .f32) (x5 : Vec Ideal S2x2048 .f32) (x6 : Vec Ideal S2x2048 .f32) (x7 : Vec Ideal S2x128x2048 .bf16) (x8 : Vec Ideal S2x128x2048 .bf16) (x9 : Vec Ideal S512x2048 .bf16) (x10 : Vec Ideal S2048x128 .bf16) (x11 : Vec Ideal S128x2048 .bf16)

/-- Whether a row of a block is the first of the context or of the image. -/
theorem mprev : ∀ j : Fin 34, ∀ y : Fin 128, IntOp.ori
    (IntOp.cmpi CmpIPredicate.eq (IntOp.addi (BitVec.ofNat 32 y.val) (Scalar.muli (BitVec.ofNat 32 j.val) 128#32)) 0#32)
    (IntOp.cmpi CmpIPredicate.eq (IntOp.addi (BitVec.ofNat 32 y.val) (Scalar.muli (BitVec.ofNat 32 j.val) 128#32)) 256#32)
    = if j.val * 128 + y.val = 0 ∨ j.val * 128 + y.val = 256 then 1#1 else 0#1 := by decide +kernel

/-- Whether a row of a block is the last of the context or of the image. -/
theorem mnext : ∀ j : Fin 34, ∀ y : Fin 128, IntOp.ori
    (IntOp.cmpi CmpIPredicate.eq (IntOp.addi (BitVec.ofNat 32 y.val) (Scalar.muli (BitVec.ofNat 32 j.val) 128#32)) 255#32)
    (IntOp.cmpi CmpIPredicate.eq (IntOp.addi (BitVec.ofNat 32 y.val) (Scalar.muli (BitVec.ofNat 32 j.val) 128#32)) 4351#32)
    = if j.val * 128 + y.val = 255 ∨ j.val * 128 + y.val = 4351 then 1#1 else 0#1 := by decide +kernel

/-- Whether a row is the block's first. -/
theorem m0 : ∀ y : Fin 128, IntOp.cmpi CmpIPredicate.eq (BitVec.ofNat 32 y.val) 0#32 = if y.val = 0 then 1#1 else 0#1 := by decide +kernel

/-- Whether a row is the block's last. -/
theorem m127 : ∀ y : Fin 128, IntOp.cmpi CmpIPredicate.eq (BitVec.ofNat 32 y.val) 127#32 = if y.val = 127 then 1#1 else 0#1 := by decide +kernel

/-- The row before, from the block and the one before it. -/
def PV (x0 : Vec Ideal S1x128x6912 .bf16) (x1 : Vec Ideal S1x8x6912 .bf16) (j : Nat) (y : Fin 128) (k : Fin 6912) : EReal :=
  if j * 128 + y.val = 0 ∨ j * 128 + y.val = 256 then 0 else if y.val = 0 then x1 (ix3 0 7 k) else x0 (ix3 0 ⟨y.val - 1, by omega⟩ k)

/-- The row after, from the block and the one after it. -/
def NX (x0 : Vec Ideal S1x128x6912 .bf16) (x2 : Vec Ideal S1x8x6912 .bf16) (j : Nat) (y : Fin 128) (k : Fin 6912) : EReal :=
  if j * 128 + y.val = 255 ∨ j * 128 + y.val = 4351 then 0 else if h : y.val = 127 then x2 (ix3 0 0 k) else x0 (ix3 0 ⟨y.val + 1, by omega⟩ k)

/-- The block's rows. -/
theorem p46 (y : Fin 128) (k : Fin 6912) : k0_pay46 i x0 x1 x2 x3 x4 x5 x6 x7 x8 x9 x10 x11 (ix2 y k) = x0 (ix3 0 y k) := by
  pointwise [k0_pay46, k0_pay3]

/-- The rows before. -/
theorem p48 (y : Fin 128) (k : Fin 6912) : k0_pay48 i x0 x1 x2 x3 x4 x5 x6 x7 x8 x9 x10 x11 (ix2 y k) = PV x0 x1 (i 1).val y k := by
  pointwise [k0_pay48, k0_pay5, k0_pay4, k0_pay3]
  rw [mprev (i 1) y, m0 y, PV]
  by_cases h : (i 1).val * 128 + y.val = 0 ∨ (i 1).val * 128 + y.val = 256
  · rw [if_pos h, if_pos h]
    rfl
  · rw [if_neg h, if_neg h]
    by_cases h' : y.val = 0
    · rw [if_pos h', if_pos h']
      rfl
    · rw [if_neg h', if_neg h']
      exact congrArg (fun n => x0 (ix3 0 n k)) (Fin.ext (by show (y.val + 128 - 1) % 128 = y.val - 1; omega))

/-- The rows after, before the ends are set to zero. -/
theorem p49 (y : Fin 128) (k : Fin 6912) : k0_pay49 i x0 x1 x2 x3 x4 x5 x6 x7 x8 x9 x10 x11 (ix2 y k) = if h : y.val = 127 then x2 (ix3 0 0 k) else x0 (ix3 0 ⟨y.val + 1, by omega⟩ k) := by
  pointwise [k0_pay49, k0_pay6, k0_pay3]
  rw [m127 y]
  by_cases h : y.val = 127
  · rw [if_pos h, dif_pos h]
    rfl
  · rw [if_neg h, dif_neg h]
    exact congrArg (fun n => x0 (ix3 0 n k)) (Fin.ext (by show (y.val + 128 - 127) % 128 = y.val + 1; omega))

/-- The ends' mask. -/
theorem p50 (y : Fin 128) : IntOp.ori (k0_pay50 i x0 x1 x2 x3 x4 x5 x6 x7 x8 x9 x10 x11 (ix2 y 0)) (IntOp.cmpi CmpIPredicate.eq (k0_pay47 i x0 x1 x2 x3 x4 x5 x6 x7 x8 x9 x10 x11 (ix2 y 0)) 4351#32)
    = if (i 1).val * 128 + y.val = 255 ∨ (i 1).val * 128 + y.val = 4351 then 1#1 else 0#1 := by
  refine Eq.trans ?_ (mnext (i 1) y)
  pointwise [k0_pay47, k0_pay50, k0_pay4, k0_pay7]

/-- The shifted rows of a block. -/
def S8 (y : Fin 128) (k : Fin 6912) : EReal :=
  k0_pay8 (k0_pay46 i x0 x1 x2 x3 x4 x5 x6 x7 x8 x9 x10 x11) (k0_pay47 i x0 x1 x2 x3 x4 x5 x6 x7 x8 x9 x10 x11) (k0_pay48 i x0 x1 x2 x3 x4 x5 x6 x7 x8 x9 x10 x11) (k0_pay49 i x0 x1 x2 x3 x4 x5 x6 x7 x8 x9 x10 x11) (k0_pay50 i x0 x1 x2 x3 x4 x5 x6 x7 x8 x9 x10 x11) (View.ld x3 r0_3) (View.ld x3 r0_4) (ix2 y k)

/-- The shifted rows of a block, from the rows before and after. -/
theorem S8_eq (y : Fin 128) (k : Fin 6912) : S8 i x0 x1 x2 x3 x4 x5 x6 x7 x8 x9 x10 x11 y k
    = x0 (ix3 0 y k) + x3 (ix2 0 k) * (PV x0 x1 (i 1).val y k - x0 (ix3 0 y k)) + x3 (ix2 1 k) * (NX x0 x2 (i 1).val y k - x0 (ix3 0 y k)) := by
  unfold S8
  pointwise [k0_pay8]
  rw [p46, p48, p49, p50, NX]
  by_cases h : (i 1).val * 128 + y.val = 255 ∨ (i 1).val * 128 + y.val = 4351
  · rw [if_pos h, if_pos h]
    rfl
  · rw [if_neg h, if_neg h]
    rfl

/-- The receptance's columns. -/
theorem q51 (y : Fin 128) (n : Fin 2048) : k0_pay51 i x0 x1 x2 x3 x4 x5 x6 x7 x8 x9 x10 x11 (ix2 y n) = S8 i x0 x1 x2 x3 x4 x5 x6 x7 x8 x9 x10 x11 y ⟨n.val, by omega⟩ := by
  pointwise [k0_pay51, k0_pay9]
  rfl

/-- The key's columns. -/
theorem q52 (y : Fin 128) (n : Fin 2048) : k0_pay52 i x0 x1 x2 x3 x4 x5 x6 x7 x8 x9 x10 x11 (ix2 y n) = S8 i x0 x1 x2 x3 x4 x5 x6 x7 x8 x9 x10 x11 y ⟨2048 + n.val, by omega⟩ := by
  pointwise [k0_pay52, k0_pay10]
  rfl

/-- The value's columns. -/
theorem q53 (y : Fin 128) (n : Fin 2048) : k0_pay53 i x0 x1 x2 x3 x4 x5 x6 x7 x8 x9 x10 x11 (ix2 y n) = S8 i x0 x1 x2 x3 x4 x5 x6 x7 x8 x9 x10 x11 y ⟨4096 + n.val, by omega⟩ := by
  pointwise [k0_pay53, k0_pay11]
  rfl

/-- The decay's columns. -/
theorem q54 (y : Fin 128) (n : Fin 128) : k0_pay54 i x0 x1 x2 x3 x4 x5 x6 x7 x8 x9 x10 x11 (ix2 y n) = S8 i x0 x1 x2 x3 x4 x5 x6 x7 x8 x9 x10 x11 y ⟨6144 + n.val, by omega⟩ := by
  pointwise [k0_pay54, k0_pay12]
  rfl

/-- The rate's columns. -/
theorem q60 (y : Fin 128) (n : Fin 128) : k0_pay60 i x0 x1 x2 x3 x4 x5 x6 x7 x8 x9 x10 x11 (ix2 y n) = S8 i x0 x1 x2 x3 x4 x5 x6 x7 x8 x9 x10 x11 y ⟨6272 + n.val, by omega⟩ := by
  pointwise [k0_pay60, k0_pay21, k0_pay13]
  rfl

/-- The gate's columns. -/
theorem q14 (y : Fin 128) (n : Fin 512) :
    k0_pay14 (k0_pay46 i x0 x1 x2 x3 x4 x5 x6 x7 x8 x9 x10 x11) (k0_pay47 i x0 x1 x2 x3 x4 x5 x6 x7 x8 x9 x10 x11) (k0_pay48 i x0 x1 x2 x3 x4 x5 x6 x7 x8 x9 x10 x11) (k0_pay49 i x0 x1 x2 x3 x4 x5 x6 x7 x8 x9 x10 x11) (k0_pay50 i x0 x1 x2 x3 x4 x5 x6 x7 x8 x9 x10 x11) (View.ld x3 r0_3) (View.ld x3 r0_4) (ix2 y n)
    = S8 i x0 x1 x2 x3 x4 x5 x6 x7 x8 x9 x10 x11 y ⟨6400 + n.val, by omega⟩ := by
  pointwise [k0_pay14]
  rfl

end Cert.FeatIdeal.Value

end
-- ==== Proof.FeatPay.lean ====
/- What the features' kernel stores, from the shifted tokens. -/
module

public import proofs.«01_k».proof.Proof.FeatDecay
public import proofs.«01_k».proof.Proof.Gen.FeatIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FeatIdeal.Value

open Cert.FeatIdeal Cert.FeatIdeal.Gen
open Cert.FeatRefIdeal.Read (LW LW_eq KD)

/-- The decay's logit in direction 0. -/
theorem p26 (A : FVec Ideal S128x128 .f32) (u : Vec Ideal S1x2048 .f32) (v : Vec Ideal S1x128x2048 .bf16) (y : Fin 128) (n : Fin 2048) :
    k0_pay26 A u v (ix2 y n) = u (ix2 0 n) + ∑ x : Fin 128, Ideal.tanh (A (ix2 y x)) * v (ix3 0 x n) := by
  pointwise [k0_pay26, k0_pay20]

/-- The logarithm of the decay in direction 0. -/
theorem p30 (A : FVec Ideal S128x128 .f32) (u : Vec Ideal S1x2048 .f32) (v : Vec Ideal S1x128x2048 .bf16) (y : Fin 128) (n : Fin 2048) :
    k0_pay30 (k0_pay27 A u v) (k0_pay28 A u v) k0_pay29 (ix3 0 y n) = LW (u (ix2 0 n) + ∑ x : Fin 128, Ideal.tanh (A (ix2 y x)) * v (ix3 0 x n)) := by
  rw [← p26]
  refine Eq.trans ?_ (LW_eq _)
  pointwise [k0_pay30, k0_pay27, k0_pay28, k0_pay29]

/-- The logarithm of the decay in direction 1. -/
theorem p37 (A : FVec Ideal S128x128 .f32) (u : Vec Ideal S1x2048 .f32) (v : Vec Ideal S1x128x2048 .bf16) (y : Fin 128) (n : Fin 2048) :
    k0_pay37 (k0_pay20 A) u v (ix3 0 y n) = LW (u (ix2 0 n) + ∑ x : Fin 128, Ideal.tanh (A (ix2 y x)) * v (ix3 0 x n)) := by
  refine Eq.trans ?_ (LW_eq _)
  pointwise [k0_pay37, k0_pay20]

/-- The corrected key in direction 0. -/
theorem p35 (K : FVec Ideal S128x2048 .f32) (g : Vec Ideal S1x2048 .f32) (A : FVec Ideal S128x128 .bf16) (u : Vec Ideal S1x2048 .f32) (v : Vec Ideal S1x128x2048 .bf16) (y : Fin 128) (n : Fin 2048) :
    k0_pay35 (k0_pay32 K g A u v) (ix3 0 y n) = KD (K (ix2 y n)) (u (ix2 0 n) + ∑ x : Fin 128, A (ix2 y x) * v (ix3 0 x n)) (g (ix2 0 n)) := by
  pointwise [k0_pay35, k0_pay32, k0_pay31]
  rw [zero_sub, KD]

/-- The corrected key in direction 1. -/
theorem p42 (K : FVec Ideal S128x2048 .f32) (g : Vec Ideal S1x2048 .f32) (A : FVec Ideal S128x128 .bf16) (u : Vec Ideal S1x2048 .f32) (v : Vec Ideal S1x128x2048 .bf16) (y : Fin 128) (n : Fin 2048) :
    k0_pay42 K g A (k0_pay38 u) v (ix3 0 y n) = KD (K (ix2 y n)) (u (ix2 0 n) + ∑ x : Fin 128, A (ix2 y x) * v (ix3 0 x n)) (g (ix2 0 n)) := by
  pointwise [k0_pay42, k0_pay40, k0_pay39, k0_pay38]
  rw [zero_sub, KD]

/-- The gate. -/
theorem p2 (A : FVec Ideal S128x512 .f32) (v : Vec Ideal S512x2048 .bf16) (y : Fin 128) (n : Fin 2048) :
    k0_pay2 A v (ix3 0 y n) = ∑ x : Fin 512, Ideal.div 1 (1 + Ideal.exp (-(A (ix2 y x) : EReal))) * v (ix2 x n) := by
  pointwise [k0_pay2]
  exact Finset.sum_congr rfl fun x _ => by rw [zero_sub]

/-- A sum over 512 whose last 32 terms are zero. -/
theorem sum512 (f : Fin 512 → EReal) (g : Fin 480 → EReal) (h : ∀ x : Fin 480, f ⟨x.val, by omega⟩ = g x) (h' : ∀ x : Fin 512, 480 ≤ x.val → f x = 0) :
    ∑ x : Fin 512, f x = ∑ x : Fin 480, g x := by
  have e : ∑ x : Fin (480 + 32), f x = ∑ x : Fin 480, f (Fin.castAdd 32 x) + ∑ x : Fin 32, f (Fin.natAdd 480 x) := Fin.sum_univ_add (a := 480) (b := 32) (f := f)
  refine e.trans ?_
  have z : ∑ x : Fin 32, f (Fin.natAdd 480 x) = 0 := Finset.sum_eq_zero fun x _ => h' (Fin.natAdd 480 x) (Nat.le_add_right 480 x.val)
  rw [z, add_zero]
  exact Finset.sum_congr rfl fun x _ => h x

end Cert.FeatIdeal.Value

end
-- ==== Proof.Feat.lean ====
/- The results of the features' kernel are the reference's. -/
module

public import proofs.«01_k».proof.Proof.FeatArgs
public import proofs.«01_k».proof.Proof.FeatKer
public import proofs.«01_k».proof.Proof.FeatPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FeatIdeal.Value

open Cert.FeatIdeal Cert.FeatIdeal.Gen
open Cert.FeatRefIdeal.Read (SHIFTED PREV NEXT LOGIT LW RATE KD GATE)

variable (m : (ℓ : Loc nD τ sig) → Buf (Elt Ideal) ℓ)

/-- The point's place along the tokens. -/
theorem co : ∀ t : Fin cfg0.N, ((grid0.coords t) 1).val = t.val % 34 := by decide +kernel

/-- The tokens before. -/
theorem prev (c : Dev nD) (t : Fin cfg0.N) (y : Fin 128) (k : Fin 6912) (b : Fin 4) (l : Fin 4352) (hb : b.val = t.val / 34) (hl : l.val = t.val % 34 * 128 + y.val) :
    PV (iblk m c 0 t) (iblk m c 1 t) (t.val % 34) y k = PREV (m ((c : Thread nD τ).loc main_arg0)) b l k := by
  unfold PV PREV
  by_cases h : l.val = 0 ∨ l.val = 256
  · rw [if_pos h, if_pos (by omega)]
  · rw [if_neg h, if_neg (by omega)]
    by_cases h' : y.val = 0
    · rw [if_pos h']
      exact b1 m c t k b ⟨l.val - 1, by omega⟩ hb (by show l.val - 1 + 1 = _; omega)
    · rw [if_neg h']
      exact b0 m c t ⟨y.val - 1, by omega⟩ k b ⟨l.val - 1, by omega⟩ hb (by show l.val - 1 = _ + (y.val - 1); omega)

/-- The tokens after. -/
theorem next (c : Dev nD) (t : Fin cfg0.N) (y : Fin 128) (k : Fin 6912) (b : Fin 4) (l : Fin 4352) (hb : b.val = t.val / 34) (hl : l.val = t.val % 34 * 128 + y.val) :
    NX (iblk m c 0 t) (iblk m c 2 t) (t.val % 34) y k = NEXT (m ((c : Thread nD τ).loc main_arg0)) b l k := by
  unfold NX NEXT
  by_cases h : l.val = 255 ∨ l.val = 4351
  · rw [dif_pos h, if_pos (by omega)]
  · rw [dif_neg h, if_neg (by omega)]
    by_cases h' : y.val = 127
    · rw [dif_pos h']
      exact b2 m c t k b ⟨l.val + 1, by omega⟩ hb (by show l.val + 1 = _; omega)
    · rw [dif_neg h']
      exact b0 m c t ⟨y.val + 1, by omega⟩ k b ⟨l.val + 1, by omega⟩ hb (by show l.val + 1 = _ + (y.val + 1); omega)

/-- The shifted rows of a block are the reference's shifted tokens. -/
theorem shift (c : Dev nD) (t : Fin cfg0.N) (y : Fin 128) (k : Fin 6912) (j : Fin 6880) (h : k.val = j.val) (b : Fin 4) (l : Fin 4352) (hb : b.val = t.val / 34) (hl : l.val = t.val % 34 * 128 + y.val) :
    S8 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y k = SHIFTED (m ((c : Thread nD τ).loc main_arg0)) (m ((c : Thread nD τ).loc main_arg1)) b l j := by
  rw [S8_eq, co t, prev m c t y k b l hb hl, next m c t y k b l hb hl, b0 m c t y k b l hb hl, b3 m c t 0 k j h, b3 m c t 1 k j h,
    show k = ⟨j.val, by omega⟩ from Fin.ext h, SHIFTED]

/-- The first row of a pair, as loaded. -/
theorem ld11 (x : Vec Ideal S2x2048 .f32) (n : Fin 2048) : View.ld x r0_11 (ix2 0 n) = x (ix2 0 n) := by
  pointwise

/-- The second row of a pair, as loaded. -/
theorem ld13 (x : Vec Ideal S2x2048 .f32) (n : Fin 2048) : View.ld x r0_13 (ix2 0 n) = x (ix2 1 n) := by
  pointwise

/-- The second row of three, as loaded. -/
theorem ld6 (x : Vec Ideal S3x2048 .f32) (n : Fin 2048) : View.ld x r0_6 (ix2 0 n) = x (ix2 1 n) := by
  pointwise

/-- The first matrix of a pair, as loaded. -/
theorem ld12 (x : Vec Ideal S2x128x2048 .bf16) (k : Fin 128) (n : Fin 2048) : View.ld x r0_12 (ix3 0 k n) = x (ix3 0 k n) := by
  pointwise

/-- The second matrix of a pair, as loaded. -/
theorem ld14 (x : Vec Ideal S2x128x2048 .bf16) (k : Fin 128) (n : Fin 2048) : View.ld x r0_14 (ix3 0 k n) = x (ix3 1 k n) := by
  pointwise

/-- The gate from the shifted tokens: the rows of weights past the last add nothing. -/
theorem gate (c : Dev nD) (t : Fin cfg0.N) (y : Fin 128) (n : Fin 2048) (b : Fin 4) (l : Fin 4352) (X : FVec Ideal S128x512 .f32)
    (hX : ∀ x : Fin 480, X (ix2 y ⟨x.val, by omega⟩) = SHIFTED (m ((c : Thread nD τ).loc main_arg0)) (m ((c : Thread nD τ).loc main_arg1)) b l ⟨6400 + x.val, by omega⟩) :
    k0_pay2 X (iblk m c 9 t) (ix3 0 y n) = GATE (m ((c : Thread nD τ).loc main_arg0)) (m ((c : Thread nD τ).loc main_arg1)) (m ((c : Thread nD τ).loc main_arg7)) b l n := by
  refine (p2 ..).trans ?_
  refine sum512 _ _ (fun x => ?_) fun x h => ?_
  · rw [b9, dif_pos x.isLt, hX]
  · rw [b9, dif_neg (by omega), mul_zero]

/-- The receptance, at a place of a block. -/
theorem at12 (c : Dev nD) (t : Fin cfg0.N) (y : Fin 128) (n : Fin 2048) (b : Fin 4) (l : Fin 4352) (hb : b.val = t.val / 34) (hl : l.val = t.val % 34 * 128 + y.val) :
    k0_pay22 (k0_pay51 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 0 y n)
      = Cert.FeatRefIdeal.Read.val_main_v133 (F := Ideal) (m ((c : Thread nD τ).loc main_arg0)) (m ((c : Thread nD τ).loc main_arg1)) (ix3 b l n) := by
  rw [Cert.FeatRefIdeal.Read.r133]
  pointwise [k0_pay22]
  exact (q51 ..).trans (shift m c t y ⟨n.val, by omega⟩ ⟨n.val, by omega⟩ rfl b l hb hl)

/-- The receptance: the array after the run. -/
theorem fin12 (c : Dev nD) : (dats m 0 c).arrAt 12 (cfgs 0).N
    = Cert.FeatRefIdeal.Read.val_main_v133 (F := Ideal) (m ((c : Thread nD τ).loc main_arg0)) (m ((c : Thread nD τ).loc main_arg1)) := by
  refine (dats m 0 c).arrAt_eq_of_covers 12 _ (by decide +kernel) fun t _ y => ?_
  have ht : t.val < 136 := t.isLt
  blk_simp
  rw [after0_12]
  frame_out
  idx_vars y
  obtain ⟨b, hb⟩ : ∃ b : Fin 4, b.val = t.val / 34 := ⟨⟨_, by omega⟩, rfl⟩
  obtain ⟨l, hl⟩ : ∃ l : Fin 4352, l.val = t.val % 34 * 128 + y1.val := ⟨⟨_, by omega⟩, rfl⟩
  rw [show (win0_12.blk t).view.emb (ix3 y0 y1 y2) = ix3 b l y2 from by blk_ext [idx t]]
  rw [show y0 = 0 from Fin.ext (by omega)]
  exact at12 m c t y1 y2 b l hb hl

/-- The value, at a place of a block. -/
theorem at13 (c : Dev nD) (t : Fin cfg0.N) (y : Fin 128) (n : Fin 2048) (b : Fin 4) (l : Fin 4352) (hb : b.val = t.val / 34) (hl : l.val = t.val % 34 * 128 + y.val) :
    k0_pay23 (k0_pay53 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 0 y n)
      = Cert.FeatRefIdeal.Read.val_main_v134 (F := Ideal) (m ((c : Thread nD τ).loc main_arg0)) (m ((c : Thread nD τ).loc main_arg1)) (ix3 b l n) := by
  rw [Cert.FeatRefIdeal.Read.r134]
  pointwise [k0_pay23]
  exact (q53 ..).trans (shift m c t y ⟨4096 + n.val, by omega⟩ ⟨4096 + n.val, by omega⟩ rfl b l hb hl)

/-- The value: the array after the run. -/
theorem fin13 (c : Dev nD) : (dats m 0 c).arrAt 13 (cfgs 0).N
    = Cert.FeatRefIdeal.Read.val_main_v134 (F := Ideal) (m ((c : Thread nD τ).loc main_arg0)) (m ((c : Thread nD τ).loc main_arg1)) := by
  refine (dats m 0 c).arrAt_eq_of_covers 13 _ (by decide +kernel) fun t _ y => ?_
  have ht : t.val < 136 := t.isLt
  blk_simp
  rw [after0_13]
  frame_out
  idx_vars y
  obtain ⟨b, hb⟩ : ∃ b : Fin 4, b.val = t.val / 34 := ⟨⟨_, by omega⟩, rfl⟩
  obtain ⟨l, hl⟩ : ∃ l : Fin 4352, l.val = t.val % 34 * 128 + y1.val := ⟨⟨_, by omega⟩, rfl⟩
  rw [show (win0_13.blk t).view.emb (ix3 y0 y1 y2) = ix3 b l y2 from by blk_ext [idx t]]
  rw [show y0 = 0 from Fin.ext (by omega)]
  exact at13 m c t y1 y2 b l hb hl

/-- The decay's logarithm in direction 0, at a place of a block. -/
theorem at15 (c : Dev nD) (t : Fin cfg0.N) (y : Fin 128) (n : Fin 2048) (b : Fin 4) (l : Fin 4352) (hb : b.val = t.val / 34) (hl : l.val = t.val % 34 * 128 + y.val) :
    k0_pay30 (k0_pay27 (k0_pay54 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 5 t) r0_11) (View.ld (iblk m c 7 t) r0_12)) (k0_pay28 (k0_pay54 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 5 t) r0_11) (View.ld (iblk m c 7 t) r0_12)) k0_pay29 (ix3 0 y n)
      = Cert.FeatRefIdeal.Read.val_main_v64 (F := Ideal) (m ((c : Thread nD τ).loc main_arg0)) (m ((c : Thread nD τ).loc main_arg1)) (m ((c : Thread nD τ).loc main_arg3)) (m ((c : Thread nD τ).loc main_arg4)) (ix3 b l n) := by
  rw [Cert.FeatRefIdeal.Read.r64]
  refine (p30 ..).trans (congrArg LW ?_)
  refine congrArg₂ (· + ·) ((ld11 ..).trans (b5 m c t 0 n)) (Finset.sum_congr rfl fun x _ => congrArg₂ (· * ·) (congrArg Ideal.tanh ?_) ((ld12 ..).trans (b7 m c t 0 x n)))
  exact (q54 ..).trans (shift m c t y ⟨6144 + x.val, by omega⟩ ⟨6144 + x.val, by omega⟩ rfl b l hb hl)

/-- The decay's logarithm in direction 0: the array after the run. -/
theorem fin15 (c : Dev nD) : (dats m 0 c).arrAt 15 (cfgs 0).N
    = Cert.FeatRefIdeal.Read.val_main_v64 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 15 _ (by decide +kernel) fun t _ y => ?_
  have ht : t.val < 136 := t.isLt
  blk_simp
  rw [after0_15]
  frame_out
  idx_vars y
  obtain ⟨b, hb⟩ : ∃ b : Fin 4, b.val = t.val / 34 := ⟨⟨_, by omega⟩, rfl⟩
  obtain ⟨l, hl⟩ : ∃ l : Fin 4352, l.val = t.val % 34 * 128 + y1.val := ⟨⟨_, by omega⟩, rfl⟩
  rw [show (win0_15.blk t).view.emb (ix3 y0 y1 y2) = ix3 b l y2 from by blk_ext [idx t]]
  rw [show y0 = 0 from Fin.ext (by omega)]
  exact at15 m c t y1 y2 b l hb hl

/-- The decay's logarithm in direction 1, at a place of a block. -/
theorem at16 (c : Dev nD) (t : Fin cfg0.N) (y : Fin 128) (n : Fin 2048) (b : Fin 4) (l : Fin 4352) (hb : b.val = t.val / 34) (hl : l.val = t.val % 34 * 128 + y.val) :
    k0_pay37 (k0_pay20 (k0_pay54 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))) (View.ld (iblk m c 5 t) r0_13) (View.ld (iblk m c 7 t) r0_14) (ix3 0 y n)
      = Cert.FeatRefIdeal.Read.val_main_v102 (F := Ideal) (m ((c : Thread nD τ).loc main_arg0)) (m ((c : Thread nD τ).loc main_arg1)) (m ((c : Thread nD τ).loc main_arg3)) (m ((c : Thread nD τ).loc main_arg4)) (ix3 b l n) := by
  rw [Cert.FeatRefIdeal.Read.r102]
  refine (p37 ..).trans (congrArg LW ?_)
  refine congrArg₂ (· + ·) ((ld13 ..).trans (b5 m c t 1 n)) (Finset.sum_congr rfl fun x _ => congrArg₂ (· * ·) (congrArg Ideal.tanh ?_) ((ld14 ..).trans (b7 m c t 1 x n)))
  exact (q54 ..).trans (shift m c t y ⟨6144 + x.val, by omega⟩ ⟨6144 + x.val, by omega⟩ rfl b l hb hl)

/-- The decay's logarithm in direction 1: the array after the run. -/
theorem fin16 (c : Dev nD) : (dats m 0 c).arrAt 16 (cfgs 0).N
    = Cert.FeatRefIdeal.Read.val_main_v102 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 16 _ (by decide +kernel) fun t _ y => ?_
  have ht : t.val < 136 := t.isLt
  blk_simp
  rw [after0_16]
  frame_out
  idx_vars y
  obtain ⟨b, hb⟩ : ∃ b : Fin 4, b.val = t.val / 34 := ⟨⟨_, by omega⟩, rfl⟩
  obtain ⟨l, hl⟩ : ∃ l : Fin 4352, l.val = t.val % 34 * 128 + y1.val := ⟨⟨_, by omega⟩, rfl⟩
  rw [show (win0_16.blk t).view.emb (ix3 y0 y1 y2) = ix3 b l y2 from by blk_ext [idx t]]
  rw [show y0 = 0 from Fin.ext (by omega)]
  exact at16 m c t y1 y2 b l hb hl

/-- The corrected key in direction 0, at a place of a block. -/
theorem at19 (c : Dev nD) (t : Fin cfg0.N) (y : Fin 128) (n : Fin 2048) (b : Fin 4) (l : Fin 4352) (hb : b.val = t.val / 34) (hl : l.val = t.val % 34 * 128 + y.val) :
    k0_pay35 (k0_pay61 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix3 0 y n)
      = Cert.FeatRefIdeal.Read.val_main_v135 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix3 b l n) := by
  rw [Cert.FeatRefIdeal.Read.r135]
  refine (p35 ..).trans ?_
  refine congr (congrArg₂ KD ((q52 ..).trans (shift m c t y ⟨2048 + n.val, by omega⟩ ⟨2048 + n.val, by omega⟩ rfl b l hb hl)) ?_) ((ld6 ..).trans (b4 m c t 1 n))
  refine congrArg₂ (· + ·) ((ld11 ..).trans (b6 m c t 0 n)) (Finset.sum_congr rfl fun x _ => congrArg₂ (· * ·) ?_ ((ld12 ..).trans (b8 m c t 0 x n)))
  exact (q60 ..).trans (shift m c t y ⟨6272 + x.val, by omega⟩ ⟨6272 + x.val, by omega⟩ rfl b l hb hl)

/-- The corrected key in direction 0: the array after the run. -/
theorem fin19 (c : Dev nD) : (dats m 0 c).arrAt 19 (cfgs 0).N
    = Cert.FeatRefIdeal.Read.val_main_v135 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 19 _ (by decide +kernel) fun t _ y => ?_
  have ht : t.val < 136 := t.isLt
  blk_simp
  rw [after0_19]
  frame_out
  idx_vars y
  obtain ⟨b, hb⟩ : ∃ b : Fin 4, b.val = t.val / 34 := ⟨⟨_, by omega⟩, rfl⟩
  obtain ⟨l, hl⟩ : ∃ l : Fin 4352, l.val = t.val % 34 * 128 + y1.val := ⟨⟨_, by omega⟩, rfl⟩
  rw [show (win0_19.blk t).view.emb (ix3 y0 y1 y2) = ix3 b l y2 from by blk_ext [idx t]]
  rw [show y0 = 0 from Fin.ext (by omega)]
  exact at19 m c t y1 y2 b l hb hl

/-- The corrected key in direction 1, at a place of a block. -/
theorem at20 (c : Dev nD) (t : Fin cfg0.N) (y : Fin 128) (n : Fin 2048) (b : Fin 4) (l : Fin 4352) (hb : b.val = t.val / 34) (hl : l.val = t.val % 34 * 128 + y.val) :
    k0_pay42 (k0_pay52 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 4 t) r0_6) (k0_pay60 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay63 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 8 t) r0_14) (ix3 0 y n)
      = Cert.FeatRefIdeal.Read.val_main_v136 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix3 b l n) := by
  rw [Cert.FeatRefIdeal.Read.r136]
  refine (p42 ..).trans ?_
  refine congr (congrArg₂ KD ((q52 ..).trans (shift m c t y ⟨2048 + n.val, by omega⟩ ⟨2048 + n.val, by omega⟩ rfl b l hb hl)) ?_) ((ld6 ..).trans (b4 m c t 1 n))
  refine congrArg₂ (· + ·) ((ld13 ..).trans (b6 m c t 1 n)) (Finset.sum_congr rfl fun x _ => congrArg₂ (· * ·) ?_ ((ld14 ..).trans (b8 m c t 1 x n)))
  exact (q60 ..).trans (shift m c t y ⟨6272 + x.val, by omega⟩ ⟨6272 + x.val, by omega⟩ rfl b l hb hl)

/-- The corrected key in direction 1: the array after the run. -/
theorem fin20 (c : Dev nD) : (dats m 0 c).arrAt 20 (cfgs 0).N
    = Cert.FeatRefIdeal.Read.val_main_v136 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 20 _ (by decide +kernel) fun t _ y => ?_
  have ht : t.val < 136 := t.isLt
  blk_simp
  rw [after0_20]
  frame_out
  idx_vars y
  obtain ⟨b, hb⟩ : ∃ b : Fin 4, b.val = t.val / 34 := ⟨⟨_, by omega⟩, rfl⟩
  obtain ⟨l, hl⟩ : ∃ l : Fin 4352, l.val = t.val % 34 * 128 + y1.val := ⟨⟨_, by omega⟩, rfl⟩
  rw [show (win0_20.blk t).view.emb (ix3 y0 y1 y2) = ix3 b l y2 from by blk_ext [idx t]]
  rw [show y0 = 0 from Fin.ext (by omega)]
  exact at20 m c t y1 y2 b l hb hl

/-- The gate, at a place of a block. -/
theorem at22 (c : Dev nD) (t : Fin cfg0.N) (y : Fin 128) (n : Fin 2048) (b : Fin 4) (l : Fin 4352) (hb : b.val = t.val / 34) (hl : l.val = t.val % 34 * 128 + y.val) :
    k0_pay2 (k0_pay14 (k0_pay46 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay47 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay48 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay49 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay50 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 3 t) r0_3) (View.ld (iblk m c 3 t) r0_4)) (iblk m c 9 t) (ix3 0 y n)
      = Cert.FeatRefIdeal.Read.val_main_v137 (F := Ideal) (m ((c : Thread nD τ).loc main_arg0)) (m ((c : Thread nD τ).loc main_arg1)) (m ((c : Thread nD τ).loc main_arg7)) (ix3 b l n) := by
  rw [Cert.FeatRefIdeal.Read.r137]
  exact gate m c t y n b l _ fun x => (q14 ..).trans (shift m c t y ⟨6400 + x.val, by omega⟩ ⟨6400 + x.val, by omega⟩ rfl b l hb hl)

/-- The gate: the array after the run. -/
theorem fin22 (c : Dev nD) : (dats m 0 c).arrAt 22 (cfgs 0).N
    = Cert.FeatRefIdeal.Read.val_main_v137 (F := Ideal) (m ((c : Thread nD τ).loc main_arg0)) (m ((c : Thread nD τ).loc main_arg1)) (m ((c : Thread nD τ).loc main_arg7)) := by
  refine (dats m 0 c).arrAt_eq_of_covers 22 _ (by decide +kernel) fun t _ y => ?_
  have ht : t.val < 136 := t.isLt
  blk_simp
  rw [after0_22]
  frame_out
  idx_vars y
  obtain ⟨b, hb⟩ : ∃ b : Fin 4, b.val = t.val / 34 := ⟨⟨_, by omega⟩, rfl⟩
  obtain ⟨l, hl⟩ : ∃ l : Fin 4352, l.val = t.val % 34 * 128 + y1.val := ⟨⟨_, by omega⟩, rfl⟩
  rw [show (win0_22.blk t).view.emb (ix3 y0 y1 y2) = ix3 b l y2 from by blk_ext [idx t]]
  rw [show y0 = 0 from Fin.ext (by omega)]
  exact at22 m c t y1 y2 b l hb hl

end Cert.FeatIdeal.Value

end
-- ==== Proof.Finite.lean ====
/- The stated precondition read back: every element of the four named arguments is a real number. -/
module

public import proofs.«01_k».proof.Proof.Rows
public import proofs.«01_k».proof.Pre_finite
public import Idealize.ShloMosaic.Lib.ReduceAll
public import Idealize.ShloMosaic.Lib.Pointwise

@[expose] public section

noncomputable section

namespace Cert.Pre_finite.Value

open Idealize.ShloMosaic Cert.Pre_finite Cert.Rows
open Cert.Pre_finite.Facts

/-- The word of plus infinity. -/
theorem pinf : Ideal.ofBits .f32 0x7F800000#32 = (⊤ : EReal) := by
  simp [Ideal.ofBits, Ideal.ieee]

/-- A value whose magnitude is less than infinity is a real number. -/
theorem real_of_lt (x : EReal) (h : max x (-x) < ⊤) : Fin' x := by
  refine ⟨x.toReal, (EReal.coe_toReal ?_ ?_).symm⟩
  · rintro rfl; simp at h
  · rintro rfl; simp at h

/-- The comparison with infinity, read back. -/
theorem word (x : EReal) (h : Ideal.cmp .olt (max x (-x)) (Ideal.ofBits .f32 0x7F800000#32) = 1#1) : Fin' x := by
  rw [pinf] at h
  refine real_of_lt x ?_
  by_contra hn
  simp [Ideal.cmp, hn] at h

/-- The scalar's only index. -/
instance : Subsingleton S_.Idx := ⟨fun a b => funext fun i => i.elim0⟩

variable [Cert.Pre_finite.Facts]

/-- What the precondition says of its arguments' elements. -/
theorem elems (q k v : FVec Ideal S4x4352x2048 .bf16) (l : FVec Ideal S1x4x128 .f32) (g : FVec Ideal S1x256 .f32)
    (h : fn (F := Ideal) q k v l g = fun _ => 1#1) :
    (∀ j, Fin' (q j)) ∧ (∀ j, Fin' (k j)) ∧ (∀ j, Fin' (v j)) ∧ (∀ j, Fin' (l j)) := by
  have h0 := congrFun h (Shape.Idx.first h_S_)
  obtain ⟨h1, hl⟩ := IntOp.andi_eq_one.1 h0
  obtain ⟨h2, hv⟩ := IntOp.andi_eq_one.1 h1
  obtain ⟨hq, hk⟩ := IntOp.andi_eq_one.1 h2
  refine ⟨fun j => ?_, fun j => ?_, fun j => ?_, fun j => ?_⟩
  · exact word _ (Host.reduce_andi_all _ _ _ _ _ hq j)
  · exact word _ (Host.reduce_andi_all _ _ _ _ _ hk j)
  · exact word _ (Host.reduce_andi_all _ _ _ _ _ hv j)
  · exact word _ (Host.reduce_andi_all _ _ _ _ _ hl j)

end Cert.Pre_finite.Value

end
-- ==== Proof.Rw.lean ====
/- The projection of the RWKV heads' columns: after its run the result array is the reference's product. -/
module

public import proofs.«01_k».proof.Proof.Gen.RwIdeal.Value
public import proofs.«01_k».proof.Proof.Gen.RwRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RwIdeal.Value

open Cert.RwIdeal Cert.RwIdeal.Gen

variable (m : (ℓ : Loc nD τ sig) → Buf (Elt Ideal) ℓ)

/-- The reference's result as a function of the two arguments. -/
abbrev REF (u : FVec Ideal S17408x4096 .bf16) (w : FVec Ideal S1x4096x13024 .f32) : FVec Ideal S17408x6912 .bf16 :=
  Cert.RwRefIdeal.Read.val_main_v5 (F := Ideal) u w

/-- The blocks that the windows stage at a point, over the whole grid. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

/-- The padded columns of the weight: past the weight's last column they are zero. -/
theorem V3 (c : Dev nD) (k : Fin 4096) (j : Fin 6912) :
    V m c main_v3 (ix2 k j) = if h : j.val < 6880 then
      (m ((c : Thread nD τ).loc main_arg1) (ix3 0 k ⟨6144 + j.val, by omega⟩) : EReal) else (0 : EReal) := by
  unfold V
  simp only [List.flatten_cons, List.flatten_nil, List.append_nil, List.cons_append, List.nil_append]
  entry_read
  simp -implicitDefEqProofs only [StableHlo.TRef.toBuf, StableHlo.TRef.ofBuf, cast_cast, cast_eq]
  pointwise
  split
  · rfl
  · simp [FloatOps.sitofp]

/-- The rows' block. -/
theorem b0 (c : Dev nD) (t : Fin cfg0.N) (i : Fin 1024) (k : Fin 4096) (i' : Fin 17408) (h : i'.val = t.val / 6 * 1024 + i.val) :
    iblk m c 0 t (ix2 i k) = m ((c : Thread nD τ).loc main_arg0) (ix2 i' k) := by
  blk_simp [iblk]
  rw [show (win0_0.blk t).view.emb (ix2 i k) = ix2 i' k from by blk_ext [idx t]]
  entry_read
  rfl

/-- The padded weight's block. -/
theorem b1 (c : Dev nD) (t : Fin cfg0.N) (k : Fin 4096) (j : Fin 1152) (j' : Fin 6912) (h : j'.val = t.val % 6 * 1152 + j.val) :
    iblk m c 1 t (ix2 k j) = if h : j'.val < 6880 then
      (m ((c : Thread nD τ).loc main_arg1) (ix3 0 k ⟨6144 + j'.val, by omega⟩) : EReal) else (0 : EReal) := by
  blk_simp [iblk]
  rw [show (win0_1.blk t).view.emb (ix2 k j) = ix2 k j' from by blk_ext [idx t]]
  exact V3 m c k j'

/-- What the body stores at an index of its block is the reference at the array's index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  have ht : t.val < 102 := t.isLt
  idx_vars y
  obtain ⟨i', hi⟩ : ∃ i' : Fin 17408, i'.val = t.val / 6 * 1024 + y0.val := ⟨⟨_, by omega⟩, rfl⟩
  obtain ⟨j', hj⟩ : ∃ j' : Fin 6912, j'.val = t.val % 6 * 1152 + y1.val := ⟨⟨_, by omega⟩, rfl⟩
  rw [show (((cfg0.win 2).blk t).view.emb (ix2 y0 y1)) = ix2 i' j' from by blk_ext [idx t]]
  pointwise [k0_pay1, REF, Cert.RwRefIdeal.Read.val_main_v5, Cert.RwRefIdeal.Read.val_main_v4, Cert.RwRefIdeal.Read.val_main_v3, Cert.RwRefIdeal.Read.val_main_v2, Cert.RwRefIdeal.Read.val_main_v1, Cert.RwRefIdeal.Read.val_main_v0, Cert.RwRefIdeal.Read.val_main_call0_v0, Cert.RwRefIdeal.Read.val_main_c]
  split
  · rename_i hc
    exact Finset.sum_congr rfl fun k _ => congrArg₂ (· * ·) (b0 m c t y0 k _ hi) ((b1 m c t k y1 j' hj).trans (dif_pos hc))
  · rename_i hc
    have z : (FloatOps.sitofp (F := Ideal) FTy.f32 0#32 : EReal) = 0 := by
      simp [FloatOps.sitofp]
    refine (Finset.sum_eq_zero fun k _ => ?_).trans z.symm
    have e := (b1 m c t k y1 j' hj).trans (dif_neg hc)
    have zz : ∀ a b : EReal, b = 0 → a * b = 0 := fun a b h => by rw [h, mul_zero]
    exact zz _ _ e

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.RwIdeal.Value

end
-- ==== Proof.Val.lean ====
/- The projection of the attention's values: after its run the result array is the reference's product. -/
module

public import proofs.«01_k».proof.Proof.Gen.ValIdeal.Value
public import proofs.«01_k».proof.Proof.Gen.ValRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ValIdeal.Value

open Cert.ValIdeal Cert.ValIdeal.Gen

variable (m : (ℓ : Loc nD τ sig) → Buf (Elt Ideal) ℓ)

/-- The reference's result as a function of the arguments. -/
abbrev REF (u : FVec Ideal S17408x4096 .bf16) (w : FVec Ideal S1x4096x13024 .f32) : FVec Ideal S17408x2048 .bf16 :=
  Cert.ValRefIdeal.Read.val_main_v4 (F := Ideal) u w

/-- The blocks that the windows stage at a point, over the whole grid. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What the body stores at an index of its block is the reference at the array's index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.ValRefIdeal.Read.val_main_v0, Cert.ValRefIdeal.Read.val_main_v1, Cert.ValRefIdeal.Read.val_main_v2, Cert.ValRefIdeal.Read.val_main_v3, Cert.ValRefIdeal.Read.val_main_v4]
  blk_point [iblk, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ValIdeal.Value

end
-- ==== Proof.Out.lean ====
/- The output projection: after its run the result array is the reference's product. -/
module

public import proofs.«01_k».proof.Proof.Gen.OutIdeal.Value
public import proofs.«01_k».proof.Proof.Gen.OutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- The reference's result as a function of the arguments. -/
abbrev REF (a : FVec Ideal S4x4096x2048 .bf16) (b : FVec Ideal S4x4096x2048 .bf16) (w : FVec Ideal S1x4096x4096 .f32) : FVec Ideal S16384x4096 .bf16 :=
  Cert.OutRefIdeal.Read.val_main_v6 (F := Ideal) a b w

/-- The blocks that the windows stage at a point, over the whole grid. -/
theorem idx : ∀ t : Fin cfg0.N, win0_0.index t = ![t.val / 4, 0] ∧ win0_1.index t = ![t.val / 4, 0] ∧ win0_2.index t = ![0, t.val % 4] ∧ win0_3.index t = ![1, t.val % 4]
    ∧ win0_4.index t = ![t.val / 4, t.val % 4] :=
  (by decide +kernel : ∀ t : Fin grid0.N, _)

/-- The first operand's block: the attention's rows, batch by batch. -/
theorem b0 (c : Dev nD) (t : Fin cfg0.N) (i : Fin 1024) (k : Fin 2048) (p : Fin 4) (q : Fin 4096)
    (h : p.val * 4096 + q.val = t.val / 4 * 1024 + i.val) :
    iblk m c 0 t (ix2 i k) = m ((c : Thread nD τ).loc main_arg0) (ix3 p q k) := by
  blk_simp [iblk]
  rw [show (win0_0.blk t).view.emb (ix2 i k) = ix2 ⟨p.val * 4096 + q.val, by omega⟩ k from by blk_ext [idx t]]
  entry_read
  pointwise
  blk_ext

/-- The second operand's block. -/
theorem b1 (c : Dev nD) (t : Fin cfg0.N) (i : Fin 1024) (k : Fin 2048) (p : Fin 4) (q : Fin 4096)
    (h : p.val * 4096 + q.val = t.val / 4 * 1024 + i.val) :
    iblk m c 1 t (ix2 i k) = m ((c : Thread nD τ).loc main_arg1) (ix3 p q k) := by
  blk_simp [iblk]
  rw [show (win0_1.blk t).view.emb (ix2 i k) = ix2 ⟨p.val * 4096 + q.val, by omega⟩ k from by blk_ext [idx t]]
  entry_read
  pointwise
  blk_ext

/-- The weight's upper half. -/
theorem b2 (c : Dev nD) (t : Fin cfg0.N) (k : Fin 2048) (j : Fin 1024) (k' j' : Fin 4096)
    (hk : k'.val = k.val) (hj : j'.val = t.val % 4 * 1024 + j.val) :
    iblk m c 2 t (ix2 k j) = m ((c : Thread nD τ).loc main_arg2) (ix3 0 k' j') := by
  blk_simp [iblk]
  rw [show (win0_2.blk t).view.emb (ix2 k j) = ix2 k' j' from by blk_ext [idx t]]
  entry_read
  pointwise

/-- The weight's lower half. -/
theorem b3 (c : Dev nD) (t : Fin cfg0.N) (k : Fin 2048) (j : Fin 1024) (k' j' : Fin 4096)
    (hk : k'.val = 2048 + k.val) (hj : j'.val = t.val % 4 * 1024 + j.val) :
    iblk m c 3 t (ix2 k j) = m ((c : Thread nD τ).loc main_arg2) (ix3 0 k' j') := by
  blk_simp [iblk]
  rw [show (win0_3.blk t).view.emb (ix2 k j) = ix2 k' j' from by blk_ext [idx t]]
  entry_read
  pointwise

/-- What the body stores at an index of its block is the reference at the array's index. -/
theorem point (c : Dev nD) (t : Fin cfg0.N) (y) : k0_pay1 (iblk m c 0 t) (iblk m c 2 t) (iblk m c 1 t) (iblk m c 3 t) y
    = REF (m ((c : Thread nD τ).loc main_arg0)) (m ((c : Thread nD τ).loc main_arg1)) (m ((c : Thread nD τ).loc main_arg2)) (((cfg0.win 4).blk t).view.emb y) := by
  have ht : t.val < 64 := t.isLt
  idx_vars y
  rw [show (((cfg0.win 4).blk t).view.emb (ix2 y0 y1)) = ix2 ⟨t.val / 4 * 1024 + y0.val, by omega⟩ ⟨t.val % 4 * 1024 + y1.val, by omega⟩ from by blk_ext [idx t]]
  pointwise [k0_pay1, REF, Cert.OutRefIdeal.Read.val_main_v6, Cert.OutRefIdeal.Read.val_main_v5, Cert.OutRefIdeal.Read.val_main_v4, Cert.OutRefIdeal.Read.val_main_v3, Cert.OutRefIdeal.Read.val_main_v2, Cert.OutRefIdeal.Read.val_main_v1, Cert.OutRefIdeal.Read.val_main_v0]
  refine congrArg₂ (· + ·) (Finset.sum_congr rfl fun k _ => ?_) (Finset.sum_congr rfl fun k _ => ?_)
  · exact congrArg₂ (· * ·) (b0 m c t y0 k _ _ (by dsimp only; omega)) (b2 m c t k y1 _ _ rfl rfl)
  · exact congrArg₂ (· * ·) (b1 m c t y0 k _ _ (by dsimp only; omega)) (b3 m c t k y1 _ _ rfl rfl)

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point m c t y

end Cert.OutIdeal.Value

end
-- ==== Proof.Shared.lean ====
/- The shared expert: after its run the result array is the reference's. -/
module

public import proofs.«01_k».proof.Proof.Gen.SharedIdeal.Value
public import proofs.«01_k».proof.Proof.Gen.SharedRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SharedIdeal.Value

open Cert.SharedIdeal Cert.SharedIdeal.Gen

variable (m : (ℓ : Loc nD τ sig) → Buf (Elt Ideal) ℓ)

/-- The reference's result as a function of the arguments. -/
abbrev REF (h : FVec Ideal S4x4096x4096 .f32) (a : FVec Ideal S1x4096x512 .f32) (b : FVec Ideal S1x4096x512 .f32) (w : FVec Ideal S1x512x4096 .f32) : FVec Ideal S16384x4096 .bf16 :=
  Cert.SharedRefIdeal.Read.val_main_v9 (F := Ideal) h a b w

/-- The blocks that the windows stage at a point, over the whole grid. -/
theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- The tokens' block. -/
theorem b0 (c : Dev nD) (t : Fin cfg0.N) (i : Fin 512) (k : Fin 4096) (p : Fin 4) (q : Fin 4096)
    (h : p.val * 4096 + q.val = t.val * 512 + i.val) :
    iblk m c 0 t (ix2 i k) = m ((c : Thread nD τ).loc main_arg0) (ix3 p q k) := by
  blk_simp [iblk]
  rw [show (win0_0.blk t).view.emb (ix2 i k) = ix2 ⟨p.val * 4096 + q.val, by omega⟩ k from by blk_ext [idx t]]
  entry_read
  pointwise
  blk_ext

/-- The gate's weight is one block. -/
theorem b1 (c : Dev nD) (t : Fin cfg0.N) (k : Fin 4096) (j : Fin 512) :
    iblk m c 1 t (ix2 k j) = m ((c : Thread nD τ).loc main_arg1) (ix3 0 k j) := by
  blk_simp [iblk]
  rw [show (win0_1.blk t).view.emb (ix2 k j) = ix2 k j from by blk_ext [idx t]]
  entry_read
  pointwise

/-- The up projection's weight is one block. -/
theorem b2 (c : Dev nD) (t : Fin cfg0.N) (k : Fin 4096) (j : Fin 512) :
    iblk m c 2 t (ix2 k j) = m ((c : Thread nD τ).loc main_arg2) (ix3 0 k j) := by
  blk_simp [iblk]
  rw [show (win0_2.blk t).view.emb (ix2 k j) = ix2 k j from by blk_ext [idx t]]
  entry_read
  pointwise

/-- The down projection's weight is one block. -/
theorem b3 (c : Dev nD) (t : Fin cfg0.N) (k : Fin 512) (j : Fin 4096) :
    iblk m c 3 t (ix2 k j) = m ((c : Thread nD τ).loc main_arg3) (ix3 0 k j) := by
  blk_simp [iblk]
  rw [show (win0_3.blk t).view.emb (ix2 k j) = ix2 k j from by blk_ext [idx t]]
  entry_read
  pointwise

/-- What the body stores at an index of its block is the reference at the array's index. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 32 := t.isLt
  idx_vars y
  rw [show (((cfg0.win 4).blk t).view.emb (ix2 y0 y1)) = ix2 ⟨t.val * 512 + y0.val, by omega⟩ y1 from by blk_ext [idx t]]
  pointwise [k0_pay1, REF, Cert.SharedRefIdeal.Read.val_main_v0, Cert.SharedRefIdeal.Read.val_main_v1, Cert.SharedRefIdeal.Read.val_main_v2, Cert.SharedRefIdeal.Read.val_main_call0_v0, Cert.SharedRefIdeal.Read.val_main_call0_v1, Cert.SharedRefIdeal.Read.val_main_call0_cst, Cert.SharedRefIdeal.Read.val_main_call0_v2, Cert.SharedRefIdeal.Read.val_main_call0_v3, Cert.SharedRefIdeal.Read.val_main_call0_cst_0, Cert.SharedRefIdeal.Read.val_main_call0_v4, Cert.SharedRefIdeal.Read.val_main_call0_v5, Cert.SharedRefIdeal.Read.val_main_v3, Cert.SharedRefIdeal.Read.val_main_v4, Cert.SharedRefIdeal.Read.val_main_v5, Cert.SharedRefIdeal.Read.val_main_v6, Cert.SharedRefIdeal.Read.val_main_v7, Cert.SharedRefIdeal.Read.val_main_v8, Cert.SharedRefIdeal.Read.val_main_v9]
  have e0 := fun k => b0 m c t y0 k ⟨(t.val * 512 + y0.val) / 4096, by omega⟩ ⟨(t.val * 512 + y0.val) % 4096, by omega⟩ (by dsimp only; omega)
  simp only [zero_sub, e0, b1, b2, b3]

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.SharedIdeal.Value

end
-- ==== Proof.Combine.lean ====
/- The last call: after its run the result array is the reference's. -/
module

public import proofs.«01_k».proof.Proof.Gen.CombineIdeal.Value
public import proofs.«01_k».proof.Proof.Gen.CombineRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CombineIdeal.Value

open Cert.CombineIdeal Cert.CombineIdeal.Gen

variable (m : (ℓ : Loc nD τ sig) → Buf (Elt Ideal) ℓ)

/-- The reference's result as a function of the arguments. -/
abbrev REF (r : FVec Ideal S98304x4096 .f32) (s : FVec Ideal S16384x4096 .bf16) (x : FVec Ideal S4x4096x4096 .f32) (d : FVec Ideal S8x24576 .f32) (g : FVec Ideal S1x4096 .f32) : FVec Ideal S4x4096x4096 .f32 :=
  Cert.CombineRefIdeal.Read.val_main_v29 (F := Ideal) r s x d g

/-- The blocks that the windows stage at a point, over the whole grid. -/
theorem idx : ∀ t : Fin cfg0.N, win0_0.index t = ![0, t.val / 32, t.val % 32, 0] ∧ win0_1.index t = ![t.val / 32, t.val % 32, 0] ∧ win0_2.index t = ![t.val / 32, t.val % 32, 0]
    ∧ win0_3.index t = ![t.val / 32, 0, 5] ∧ win0_4.index t = ![0, 0]
    ∧ win0_5.index t = ![t.val / 32, t.val % 32, 0] :=
  (by decide +kernel : ∀ t : Fin grid0.N, _)

/-- The summed expert outputs, the reference's. -/
abbrev YREF (r : FVec Ideal S98304x4096 .f32) (s : FVec Ideal S16384x4096 .bf16) : FVec Ideal S4x4096x4096 .f32 :=
  Cert.CombineRefIdeal.Read.val_main_v4 (F := Ideal) r s

/-- The reference's sum at an index: the six slots' rows and the shared expert's. -/
theorem yref_at (r : FVec Ideal S98304x4096 .f32) (s : FVec Ideal S16384x4096 .bf16) (b : Fin 4) (i j : Fin 4096)
    (q : Fin 16384) (hq : q.val = b.val * 4096 + i.val) :
    YREF r s (ix3 b i j) = (∑ k : Fin 6, (r (ix2 ⟨k.val * 16384 + q.val, by omega⟩ j) : EReal)) + s (ix2 q j) := by
  have e : Cert.CombineRefIdeal.Read.val_main_v4 (F := Ideal) r s (ix3 b i j) = Cert.CombineRefIdeal.Read.val_main_v3 (F := Ideal) r s (ix2 q j) := by
    pointwise [Cert.CombineRefIdeal.Read.val_main_v4]
    rw [show (⟨b.val * 4096 + i.val, by omega⟩ : Fin 16384) = q from Fin.ext hq.symm]
  refine e.trans ?_
  pointwise [Cert.CombineRefIdeal.Read.val_main_v3, Cert.CombineRefIdeal.Read.val_main_v2, Cert.CombineRefIdeal.Read.val_main_v1, Cert.CombineRefIdeal.Read.val_main_v0, Cert.CombineRefIdeal.Read.val_main_cst]

/-- The body's result at an index, over its sums. -/
theorem pay_at (v20 v22 : FVec Ideal S128x4096 .f32) (v24 : FVec Ideal S1x4096 .f32) (v25 : Vec Ideal S1x4096 .f32)
    (i : Fin 128) (j : Fin 4096) (Y : Fin 4096 → EReal) (hY : ∀ k, v20 (ix2 i k) = Y k) :
    k0_pay1 v20 v22 v24 v25 (ix3 0 i j) = v22 (ix2 i j) + v24 (ix2 0 j) *
      ((Y j * Ideal.rsqrt (Ideal.div (∑ k, Y k * Y k) (Ideal.ofBits .f32 0x45800000#32) + Ideal.ofBits .f32 0x358637BD#32)) * v25 (ix2 0 j)) := by
  obtain rfl : (fun k => v20 (ix2 i k)) = Y := funext hY
  pointwise [k0_pay1]

/-- A block of the six slots' rows. -/
theorem b0 (c : Dev nD) (t : Fin cfg0.N) (k : Fin 6) (i : Fin 128) (j : Fin 4096) (q : Fin 98304)
    (hq : q.val = k.val * 16384 + (t.val / 32 * 4096 + (t.val % 32 * 128 + i.val))) :
    iblk m c 0 t (ix4 k 0 i j) = m ((c : Thread nD τ).loc main_arg0) (ix2 q j) := by
  have ht : t.val < 128 := t.isLt
  blk_simp [iblk]
  rw [show (win0_0.blk t).view.emb (ix4 k 0 i j) = ix4 k ⟨t.val / 32, by omega⟩ ⟨t.val % 32 * 128 + i.val, by omega⟩ j from by blk_ext [idx t]]
  entry_read
  pointwise
  blk_ext

/-- A block of the shared expert's rows. -/
theorem b1 (c : Dev nD) (t : Fin cfg0.N) (i : Fin 128) (j : Fin 4096) (q : Fin 16384)
    (hq : q.val = (t.val / 32 * 4096 + (t.val % 32 * 128 + i.val))) :
    iblk m c 1 t (ix3 0 i j) = m ((c : Thread nD τ).loc main_arg1) (ix2 q j) := by
  have ht : t.val < 128 := t.isLt
  blk_simp [iblk]
  rw [show (win0_1.blk t).view.emb (ix3 0 i j) = ix3 ⟨t.val / 32, by omega⟩ ⟨t.val % 32 * 128 + i.val, by omega⟩ j from by blk_ext [idx t]]
  entry_read
  pointwise
  blk_ext

/-- A block of the stream's rows. -/
theorem b2 (c : Dev nD) (t : Fin cfg0.N) (i : Fin 128) (j : Fin 4096) (b : Fin 4) (i' : Fin 4096) (hb : b.val = t.val / 32)
    (hi : i'.val = (t.val % 32 * 128 + i.val)) :
    iblk m c 2 t (ix3 0 i j) = m ((c : Thread nD τ).loc main_arg2) (ix3 b i' j) := by
  blk_simp [iblk]
  rw [show (win0_2.blk t).view.emb (ix3 0 i j) = ix3 b i' j from by blk_ext [idx t]]
  entry_read
  rfl

/-- The gate's block: the last sixth of the modulation. -/
theorem b3 (c : Dev nD) (t : Fin cfg0.N) (j : Fin 4096) (b : Fin 8) (j' : Fin 24576) (hb : b.val = t.val / 32)
    (hj : j'.val = 20480 + j.val) :
    iblk m c 3 t (ix3 0 0 j) = m ((c : Thread nD τ).loc main_arg3) (ix2 b j') := by
  blk_simp [iblk]
  rw [show (win0_3.blk t).view.emb (ix3 0 0 j) = ix3 b 0 j' from by blk_ext [idx t]]
  entry_read
  pointwise

/-- The norm's weight is one block. -/
theorem b4 (c : Dev nD) (t : Fin cfg0.N) (j : Fin 4096) :
    iblk m c 4 t (ix2 0 j) = m ((c : Thread nD τ).loc main_arg4) (ix2 0 j) := by
  blk_simp [iblk]
  rw [show (win0_4.blk t).view.emb (ix2 0 j) = ix2 0 j from by blk_ext [idx t]]
  entry_read
  pointwise
  try rfl

/-- The body's sum at an index. -/
theorem sum_at (c : Dev nD) (t : Fin cfg0.N) (i : Fin 128) (j : Fin 4096) (r : FVec Ideal S98304x4096 .f32) (s : FVec Ideal S16384x4096 .bf16)
    (hr : r = m ((c : Thread nD τ).loc main_arg0)) (hs : s = m ((c : Thread nD τ).loc main_arg1))
    (q : Fin 16384) (hq : q.val = t.val / 32 * 4096 + (t.val % 32 * 128 + i.val)) :
    k0_pay2 (iblk m c 1 t) (View.ld (iblk m c 0 t) r0_1) (View.ld (iblk m c 0 t) r0_2) (View.ld (iblk m c 0 t) r0_3)
        (View.ld (iblk m c 0 t) r0_4) (View.ld (iblk m c 0 t) r0_5) (View.ld (iblk m c 0 t) r0_6) (ix2 i j)
    = (∑ k : Fin 6, (r (ix2 ⟨k.val * 16384 + q.val, by omega⟩ j) : EReal)) + s (ix2 q j) := by
  have e0 : ∀ k : Fin 6, iblk m c 0 t (ix4 k 0 i j) = r (ix2 ⟨k.val * 16384 + q.val, by omega⟩ j) := fun k => by
    rw [hr]; exact b0 m c t k i j _ (by dsimp only; omega)
  have e1 : iblk m c 1 t (ix3 0 i j) = s (ix2 q j) := by rw [hs]; exact b1 m c t i j q hq
  pointwise [k0_pay2]
  rw [Fin.sum_univ_six]
  simp only [e0, e1]
  ac_rfl

/-- The gate at an index. -/
theorem gate_at (d : FVec Ideal S8x24576 .f32) (b : Fin 4) (i j : Fin 4096) (b' : Fin 8) (j' : Fin 24576) (hb : b'.val = b.val) (hj : j'.val = 20480 + j.val) :
    Cert.CombineRefIdeal.Read.val_main_v27 (F := Ideal) d (ix3 b i j) = d (ix2 b' j') := by
  pointwise [Cert.CombineRefIdeal.Read.val_main_v27, Cert.CombineRefIdeal.Read.val_main_v12, Cert.CombineRefIdeal.Read.val_main_v6, Cert.CombineRefIdeal.Read.val_main_v5]
  blk_ext

/-- The norm's weight at an index. -/
theorem gain_at (g : FVec Ideal S1x4096 .f32) (b : Fin 4) (i j : Fin 4096) :
    Cert.CombineRefIdeal.Read.val_main_v25 (F := Ideal) g (ix3 b i j) = g (ix2 0 j) := by
  pointwise [Cert.CombineRefIdeal.Read.val_main_v25, Cert.CombineRefIdeal.Read.val_main_v24, Cert.CombineRefIdeal.Read.val_main_v23]

/-- The mean square's reciprocal root at an index. -/
theorem rms_at (r : FVec Ideal S98304x4096 .f32) (s : FVec Ideal S16384x4096 .bf16) (b : Fin 4) (i j : Fin 4096) :
    Cert.CombineRefIdeal.Read.val_main_v21 (F := Ideal) r s (ix3 b i j)
      = Ideal.rsqrt (Ideal.div (∑ k : Fin 4096, YREF r s (ix3 b i k) * YREF r s (ix3 b i k)) (Ideal.ofBits .f32 0x45800000#32) + Ideal.ofBits .f32 0x358637BD#32) := by
  rw [Cert.CombineRefIdeal.Read.val_main_v21_apply, Cert.CombineRefIdeal.Read.val_main_v20_apply, Cert.CombineRefIdeal.Read.val_main_v19_apply, Cert.CombineRefIdeal.Read.val_main_v17_apply, Cert.CombineRefIdeal.Read.val_main_v18_apply, Cert.CombineRefIdeal.Read.val_main_v16_apply, Cert.CombineRefIdeal.Read.val_main_v15_apply, Cert.CombineRefIdeal.Read.val_main_v14_apply]
  have z : (Cert.CombineRefIdeal.Read.val_main_cst_0 (F := Ideal) (Shape.Idx.first Cert.CombineRefIdeal.Gen.h_S_) : EReal) = 0 := by
    show Ideal.ofBits .f32 0x00000000#32 = 0
    simp [Ideal.ofBits, Ideal.ieee]
  have e : ∀ k : Fin 4096, (Cert.CombineRefIdeal.Read.idx_main_v14
      (Cert.CombineRefIdeal.Read.idx_main_v15 (Cert.CombineRefIdeal.Read.idx_main_v21 (ix3 b i j))) k) = ix3 b i k := fun k => by
    funext a
    match a with
    | ⟨0, _⟩ => rfl
    | ⟨1, _⟩ => rfl
    | ⟨2, _⟩ => rfl
  rw [z, zero_add]
  refine congrArg Ideal.rsqrt (congrArg₂ (· + ·) (congrArg₂ Ideal.div (Finset.sum_congr rfl fun k _ => ?_) rfl) rfl)
  rw [e, Cert.CombineRefIdeal.Read.val_main_v13_apply]
  rfl

/-- The reference at an index, over its sums. -/
theorem ref_at (r : FVec Ideal S98304x4096 .f32) (s : FVec Ideal S16384x4096 .bf16) (x : FVec Ideal S4x4096x4096 .f32) (d : FVec Ideal S8x24576 .f32) (g : FVec Ideal S1x4096 .f32)
    (b : Fin 4) (i j : Fin 4096) (Y : Fin 4096 → EReal) (hY : ∀ k, YREF r s (ix3 b i k) = Y k) (b' : Fin 8) (j' : Fin 24576) (hb : b'.val = b.val) (hj : j'.val = 20480 + j.val) :
    REF r s x d g (ix3 b i j) = x (ix3 b i j) + d (ix2 b' j') *
      ((Y j * Ideal.rsqrt (Ideal.div (∑ k, Y k * Y k) (Ideal.ofBits .f32 0x45800000#32) + Ideal.ofBits .f32 0x358637BD#32)) * g (ix2 0 j)) := by
  obtain rfl : (fun k => YREF r s (ix3 b i k)) = Y := funext hY
  unfold REF
  rw [Cert.CombineRefIdeal.Read.val_main_v29_apply, Cert.CombineRefIdeal.Read.val_main_v28_apply, Cert.CombineRefIdeal.Read.val_main_v26_apply, Cert.CombineRefIdeal.Read.val_main_v22_apply,
    gate_at d b i j b' j' hb hj, gain_at, rms_at]
  rfl

/-- The written block at an index is the reference's. -/
theorem point (c : Dev nD) (t : Fin cfg0.N) (y : S1x128x4096.Idx) :
    k0_pay1 (k0_pay2 (iblk m c 1 t) (View.ld (iblk m c 0 t) r0_1) (View.ld (iblk m c 0 t) r0_2) (View.ld (iblk m c 0 t) r0_3)
        (View.ld (iblk m c 0 t) r0_4) (View.ld (iblk m c 0 t) r0_5) (View.ld (iblk m c 0 t) r0_6)) (k0_pay3 (iblk m c 2 t)) (k0_pay4 (iblk m c 3 t)) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 5).blk t).view.emb y) := by
  have ht : t.val < 128 := t.isLt
  idx_vars y
  obtain ⟨b, hb⟩ : ∃ b : Fin 4, b.val = t.val / 32 := ⟨⟨t.val / 32, by omega⟩, rfl⟩
  obtain ⟨i', hi⟩ : ∃ i' : Fin 4096, i'.val = t.val % 32 * 128 + y1.val := ⟨⟨t.val % 32 * 128 + y1.val, by omega⟩, rfl⟩
  obtain ⟨q, hq⟩ : ∃ q : Fin 16384, q.val = t.val / 32 * 4096 + (t.val % 32 * 128 + y1.val) := ⟨⟨_, by omega⟩, rfl⟩
  obtain ⟨b', hb'⟩ : ∃ b' : Fin 8, b'.val = t.val / 32 := ⟨⟨t.val / 32, by omega⟩, rfl⟩
  obtain ⟨j', hj⟩ : ∃ j' : Fin 24576, j'.val = 20480 + y2.val := ⟨⟨_, by omega⟩, rfl⟩
  obtain rfl : y0 = 0 := Fin.ext (by omega)
  rw [show (((cfg0.win 5).blk t).view.emb (ix3 0 y1 y2)) = ix3 b i' y2 from by blk_ext [idx t]]
  obtain ⟨r, hr⟩ : ∃ r : FVec Ideal S98304x4096 .f32, r = m ((c : Thread nD τ).loc main_arg0) := ⟨_, rfl⟩
  obtain ⟨s, hs⟩ : ∃ s : FVec Ideal S16384x4096 .bf16, s = m ((c : Thread nD τ).loc main_arg1) := ⟨_, rfl⟩
  have e2 : k0_pay3 (iblk m c 2 t) (ix2 y1 y2) = iblk m c 2 t (ix3 0 y1 y2) := by pointwise [k0_pay3]
  have e3 : k0_pay4 (iblk m c 3 t) (ix2 0 y2) = iblk m c 3 t (ix3 0 0 y2) := by pointwise [k0_pay4]
  rw [← hr, ← hs]
  refine (pay_at _ _ _ _ y1 y2 _ (fun k => sum_at m c t y1 k r s hr hs q hq)).trans ?_
  refine Eq.trans ?_ (ref_at r s _ _ _ b i' y2 _ (fun k => yref_at r s b i' k q (by omega)) b' j' (by omega) hj).symm
  rw [e2, e3, b2 m c t y1 y2 b i' hb hi, b3 m c t y2 b' j' hb' hj, b4 m c t y2]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.CombineIdeal.Value

end
-- ==== Proof.Rope.lean ====
/- The rotary position of the attention's queries and keys: the angles, the order of a head's columns, and a gather of
   columns read at an index. -/
module

public import Idealize.ShloMosaic.Lib.Pipeline.ValueKit
public import Idealize.ShloMosaic.Lib.Pointwise

@[expose] public section

noncomputable section

open Idealize.ShloMosaic

namespace Cert.Rope

/-- The dimension numbers of a choice of columns of a matrix, one start index for each column of the result. -/
abbrev colDims (K N C : Nat) (wf : GatherDims.WF ⟨2, ![K, N]⟩ ⟨2, ![C, 1]⟩ ⟨2, ![K, C]⟩ [0] [1] [] [1] [] 1 ![K, 1]) :
    GatherDims ⟨2, ![K, N]⟩ ⟨2, ![C, 1]⟩ ⟨2, ![K, C]⟩ where
  offsetDims := [0]
  collapsedSliceDims := [1]
  operandBatchingDims := []
  startIndicesBatchingDims := []
  startIndexMap := [1]
  indexVectorDim := 1
  sliceSizes := ![K, 1]
  wf := wf

/-- A choice of columns read at an index: the row stays, the column is the one the start index names. -/
theorem col_apply {α : Type} {K N C w : Nat} (hN : 0 < N)
    (wf : GatherDims.WF ⟨2, ![K, N]⟩ ⟨2, ![C, 1]⟩ ⟨2, ![K, C]⟩ [0] [1] [] [1] [] 1 ![K, 1])
    (x : (⟨2, ![K, N]⟩ : Shape).Idx → α) (p : IVec ⟨2, ![C, 1]⟩ w) (k : Fin K) (j : Fin C) (n : Fin N)
    (h : (p (ix2 j 0)).toInt.toNat = n.val) :
    Host.gather (colDims K N C wf) x p (ix2 k j) = x (ix2 k n) := by
  unfold Host.gather
  congr 1
  funext a
  refine Fin.ext ?_
  show (colDims K N C wf).start (ix2 k j) p a + (colDims K N C wf).batchCoord (ix2 k j) a
    + (colDims K N C wf).offCoord (ix2 k j) a = _
  rw [GatherDims.batchCoord_eq_zero _ _ _ List.not_mem_nil]
  have hs : (colDims K N C wf).siIdx (ix2 k j) ⟨List.idxOf (1 : Fin 2) (colDims K N C wf).startIndexMap,
      List.idxOf_lt_length_iff.2 (List.mem_singleton.mpr rfl)⟩ = ix2 j 0 := by
    funext b
    refine Fin.ext ?_
    match b with
    | ⟨0, _⟩ => rfl
    | ⟨1, _⟩ => rfl
  have h01 : a = 0 ∨ a = 1 := by
    match a with
    | ⟨0, _⟩ => exact .inl rfl
    | ⟨1, _⟩ => exact .inr rfl
  rcases h01 with rfl | rfl
  · unfold GatherDims.start
    rw [dif_neg (show ¬(0 : Fin 2) ∈ (colDims K N C wf).startIndexMap from fun h => Fin.zero_ne_one (List.mem_singleton.mp h))]
    show 0 + 0 + k.val = k.val
    omega
  · rw [GatherDims.offCoord_eq_zero _ _ _ (fun h => ((GatherDims.mem_sKept _ _).mp h).1 (List.mem_singleton.mpr rfl))]
    unfold GatherDims.start
    rw [dif_pos (show (1 : Fin 2) ∈ (colDims K N C wf).startIndexMap from List.mem_singleton.mpr rfl), hs, h]
    show min n.val (N - 1) + 0 + 0 = n.val
    omega

/-- The angle by which pair `e` of a head turns at place `p` of the grid: its row's number for the first half of the
    pairs, its column's for the second, times the pair's frequency. -/
def ANG (p e : Nat) : EReal :=
  if e < 32 then FloatOps.sitofp (F := Ideal) FTy.f32 (BitVec.ofNat 32 (p / 64)) * Ideal.pow (Ideal.ofBits FTy.f32 0x461C4000#32)
    (Ideal.div (-FloatOps.sitofp (F := Ideal) FTy.f32 (BitVec.ofNat 32 e)) (Ideal.ofBits FTy.f32 0x42000000#32))
  else FloatOps.sitofp (F := Ideal) FTy.f32 (BitVec.ofNat 32 (p % 64)) * Ideal.pow (Ideal.ofBits FTy.f32 0x461C4000#32)
    (Ideal.div (-FloatOps.sitofp (F := Ideal) FTy.f32 (BitVec.ofNat 32 (e - 32))) (Ideal.ofBits FTy.f32 0x42000000#32))

/-- The cosine at token `l`, pair `e`: the 256 context tokens do not turn. -/
def COS (l e : Nat) : EReal := if l < 256 then 1 else Ideal.cos (ANG (l - 256) e)

/-- The sine at token `l`, pair `e`. -/
def SIN (l e : Nat) : EReal := if l < 256 then 0 else Ideal.sin (ANG (l - 256) e)

/-- The scale of the queries. -/
def SC : EReal := Ideal.ofBits FTy.f32 0x3DB504F3#32

/-- The scale is not negative. -/
theorem SC_nonneg : 0 ≤ SC := by
  unfold SC
  norm_num [Ideal.ofBits, Ideal.ieee]
  rw [if_neg (by decide), if_neg (by decide), if_neg (by decide)]
  exact EReal.coe_nonneg.2 (by positivity)

/-- The scale is finite. -/
theorem SC_ne_top : SC ≠ ⊤ := by
  unfold SC
  norm_num [Ideal.ofBits, Ideal.ieee]
  rw [if_neg (by decide), if_neg (by decide)]
  exact EReal.coe_ne_top _

/-- The scale goes from the sum of two products to the factors. -/
theorem scale (a b c d : EReal) : a * (c * SC) + b * (d * SC) = (a * c + b * d) * SC := by
  rw [EReal.right_distrib_of_nonneg_of_ne_top SC_nonneg SC_ne_top, mul_assoc, mul_assoc]

end Cert.Rope

end
-- ==== Proof.KeyRef.lean ====
/- The reference of the keys' projection, read entry by entry. -/
module

public import proofs.«01_k».proof.Proof.Rope
public import proofs.«01_k».proof.Proof.Gen.KeyRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KeyRefIdeal.Read

open Cert.KeyRefIdeal

/-- The product at an entry. -/
theorem prod (u : FVec Ideal S17408x4096 .bf16) (w : FVec Ideal S1x4096x13024 .f32) (r : Fin 17408) (n : Fin 2048) :
    val_main_v3 (F := Ideal) u w (ix2 r n) = ∑ k : Fin 4096, u (ix2 r k) * w (ix3 0 k ⟨2048 + n.val, by omega⟩) := by
  rw [val_main_v3_apply]
  exact Finset.sum_congr rfl fun k _ => congrArg₂ (· * ·) (congrArg u (show lidx_main_v3 (ix2 r n) k = ix2 r k from by blk_ext)) (by pointwise [val_main_v1, val_main_v2])

/-- The angles of the image tokens. -/
theorem ang (p : Fin 4096) (e : Fin 64) : val_main_v21 (F := Ideal) (ix2 p e) = Cert.Rope.ANG p.val e.val := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21]
  simp only [dite_eq_ite, Cert.Rope.ANG]
  rfl

/-- An image token's turned first members of the pairs. -/
theorem x35 (u : FVec Ideal S17408x4096 .bf16) (w : FVec Ideal S1x4096x13024 .f32) (b : Fin 4) (p : Fin 4096) (h : Fin 16) (e : Fin 64)
    (r : Fin 17408) (n0 : Fin 2048) (n1 : Fin 2048) (hr : r.val = b.val * 4352 + (256 + p.val)) (h0 : n0.val = h.val * 128 + e.val * 2) (h1 : n1.val = h.val * 128 + e.val * 2 + 1) :
    val_main_v35 (F := Ideal) u w (ix4 b p h e)
    = val_main_v3 (F := Ideal) u w (ix2 r n0) * Ideal.cos (Cert.Rope.ANG p.val e.val)
      - val_main_v3 (F := Ideal) u w (ix2 r n1) * Ideal.sin (Cert.Rope.ANG p.val e.val) := by
  rw [show r = ⟨b.val * 4352 + (256 + p.val), by omega⟩ from Fin.ext hr]
  rw [show n0 = ⟨h.val * 128 + e.val * 2, by omega⟩ from Fin.ext h0]
  rw [show n1 = ⟨h.val * 128 + e.val * 2 + 1, by omega⟩ from Fin.ext h1]
  pointwise [val_main_v22, val_main_v23, val_main_v24, val_main_v25, val_main_v26, val_main_v27, val_main_v28, val_main_v29, val_main_v30, val_main_v31, val_main_v32, val_main_v33, val_main_v34, val_main_v35]
  rw [ang]

/-- An image token's turned second members of the pairs. -/
theorem x40 (u : FVec Ideal S17408x4096 .bf16) (w : FVec Ideal S1x4096x13024 .f32) (b : Fin 4) (p : Fin 4096) (h : Fin 16) (e : Fin 64)
    (r : Fin 17408) (n0 : Fin 2048) (n1 : Fin 2048) (hr : r.val = b.val * 4352 + (256 + p.val)) (h0 : n0.val = h.val * 128 + e.val * 2) (h1 : n1.val = h.val * 128 + e.val * 2 + 1) :
    val_main_v40 (F := Ideal) u w (ix4 b p h e)
    = val_main_v3 (F := Ideal) u w (ix2 r n0) * Ideal.sin (Cert.Rope.ANG p.val e.val)
      + val_main_v3 (F := Ideal) u w (ix2 r n1) * Ideal.cos (Cert.Rope.ANG p.val e.val) := by
  rw [show r = ⟨b.val * 4352 + (256 + p.val), by omega⟩ from Fin.ext hr]
  rw [show n0 = ⟨h.val * 128 + e.val * 2, by omega⟩ from Fin.ext h0]
  rw [show n1 = ⟨h.val * 128 + e.val * 2 + 1, by omega⟩ from Fin.ext h1]
  pointwise [val_main_v22, val_main_v23, val_main_v24, val_main_v25, val_main_v26, val_main_v27, val_main_v28, val_main_v29, val_main_v30, val_main_v36, val_main_v37, val_main_v38, val_main_v39, val_main_v40]
  rw [ang]

/-- A context token's first members of the pairs. -/
theorem x43 (u : FVec Ideal S17408x4096 .bf16) (w : FVec Ideal S1x4096x13024 .f32) (b : Fin 4) (p : Fin 256) (h : Fin 16) (e : Fin 64)
    (r : Fin 17408) (n0 : Fin 2048) (hr : r.val = b.val * 4352 + p.val) (h0 : n0.val = h.val * 128 + e.val * 2) :
    val_main_v43 (F := Ideal) u w (ix4 b p h e)
    = val_main_v3 (F := Ideal) u w (ix2 r n0) := by
  rw [show r = ⟨b.val * 4352 + p.val, by omega⟩ from Fin.ext hr]
  rw [show n0 = ⟨h.val * 128 + e.val * 2, by omega⟩ from Fin.ext h0]
  pointwise [val_main_v26, val_main_v42, val_main_v43]

/-- A context token's second members of the pairs. -/
theorem x45 (u : FVec Ideal S17408x4096 .bf16) (w : FVec Ideal S1x4096x13024 .f32) (b : Fin 4) (p : Fin 256) (h : Fin 16) (e : Fin 64)
    (r : Fin 17408) (n1 : Fin 2048) (hr : r.val = b.val * 4352 + p.val) (h1 : n1.val = h.val * 128 + e.val * 2 + 1) :
    val_main_v45 (F := Ideal) u w (ix4 b p h e)
    = val_main_v3 (F := Ideal) u w (ix2 r n1) := by
  rw [show r = ⟨b.val * 4352 + p.val, by omega⟩ from Fin.ext hr]
  rw [show n1 = ⟨h.val * 128 + e.val * 2 + 1, by omega⟩ from Fin.ext h1]
  pointwise [val_main_v26, val_main_v44, val_main_v45]

set_option maxHeartbeats 2000000 in
/-- The product's columns turned: column `j` of a head from the two columns `n0`, `n1` of its pair. -/
theorem turned (u : FVec Ideal S17408x4096 .bf16) (w : FVec Ideal S1x4096x13024 .f32) (r : Fin 17408) (j n0 n1 : Fin 2048)
    (h0 : n0.val = j.val / 128 * 128 + j.val % 64 * 2) (h1 : n1.val = j.val / 128 * 128 + j.val % 64 * 2 + 1) :
    val_main_v48 (F := Ideal) u w (ix2 r j) = if j.val % 128 < 64
      then val_main_v3 (F := Ideal) u w (ix2 r n0) * Cert.Rope.COS (r.val % 4352) (j.val % 64)
        + val_main_v3 (F := Ideal) u w (ix2 r n1) * -Cert.Rope.SIN (r.val % 4352) (j.val % 64)
      else val_main_v3 (F := Ideal) u w (ix2 r n1) * Cert.Rope.COS (r.val % 4352) (j.val % 64)
        + val_main_v3 (F := Ideal) u w (ix2 r n0) * Cert.Rope.SIN (r.val % 4352) (j.val % 64) := by
  pointwise [val_main_v41, val_main_v46, val_main_v47, val_main_v48]
  by_cases hl : r.val % 4352 < 256
  · by_cases hj : j.val % 128 < 64
    · have e : j.val % 128 = j.val % 64 := by omega
      refine ((dif_pos hl).trans (dif_pos hj)).trans (Eq.trans ?_ (if_pos hj).symm)
      refine (x43 u w _ _ _ _ r n0 (by dsimp only; omega) (by dsimp only; omega)).trans ?_
      simp only [Cert.Rope.COS, Cert.Rope.SIN, if_pos hl, e, mul_one, neg_zero, mul_zero, add_zero]
    · have e : j.val % 128 - 64 = j.val % 64 := by omega
      refine ((dif_pos hl).trans (dif_neg hj)).trans (Eq.trans ?_ (if_neg hj).symm)
      refine (x45 u w _ _ _ _ r n1 (by dsimp only; omega) (by dsimp only; omega)).trans ?_
      simp only [Cert.Rope.COS, Cert.Rope.SIN, if_pos hl, e, mul_one, mul_zero, add_zero]
  · by_cases hj : j.val % 128 < 64
    · have e : j.val % 128 = j.val % 64 := by omega
      refine ((dif_neg hl).trans (dif_pos hj)).trans (Eq.trans ?_ (if_pos hj).symm)
      refine (x35 u w _ _ _ _ r n0 n1 (by dsimp only; omega) (by dsimp only; omega) (by dsimp only; omega)).trans ?_
      simp only [Cert.Rope.COS, Cert.Rope.SIN, if_neg hl, e, mul_neg, ← sub_eq_add_neg]
    · have e : j.val % 128 - 64 = j.val % 64 := by omega
      refine ((dif_neg hl).trans (dif_neg hj)).trans (Eq.trans ?_ (if_neg hj).symm)
      refine (x40 u w _ _ _ _ r n0 n1 (by dsimp only; omega) (by dsimp only; omega) (by dsimp only; omega)).trans ?_
      simp only [Cert.Rope.COS, Cert.Rope.SIN, if_neg hl, e]
      exact add_comm _ _

end Cert.KeyRefIdeal.Read

end
-- ==== Proof.Key.lean ====
/- The projection of the attention's keys with their rotary position: after its run the result array is the reference's. -/
module

public import proofs.«01_k».proof.Proof.KeyRef
public import proofs.«01_k».proof.Proof.Gen.KeyIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KeyIdeal.Value

open Cert.KeyIdeal Cert.KeyIdeal.Gen

variable (m : (ℓ : Loc nD τ sig) → Buf (Elt Ideal) ℓ)

/-- The reference's result as a function of the arguments. -/
abbrev REF (u : FVec Ideal S17408x4096 .bf16) (w : FVec Ideal S1x4096x13024 .f32) : FVec Ideal S17408x2048 .bf16 :=
  Cert.KeyRefIdeal.Read.val_main_v49 (F := Ideal) u w

/-- The blocks that the windows stage at a point, over the whole grid. -/
theorem idx : ∀ t : Fin cfg0.N, win0_0.index t = ![t.val / 2, 0] ∧ win0_1.index t = ![0, t.val % 2]
    ∧ win0_2.index t = ![t.val / 2, 0] ∧ win0_3.index t = ![t.val / 2, 0] ∧ win0_4.index t = ![t.val / 2, t.val % 2] :=
  (by decide +kernel : ∀ t : Fin grid0.N, _)

/-- The order of the columns: a head's even columns, then its odd ones. -/
theorem perm : ∀ j : Fin 2048, (lit0 j).toInt.toNat = j.val / 128 * 128 + j.val % 64 * 2 + j.val % 128 / 64 :=
  by decide +kernel

/-- A column of the reordered matrix. -/
theorem cols (x : FVec Ideal S4096x2048 .f32) (p : IVec S2048x1 32) (k : Fin 4096) (j n : Fin 2048) (h : (p (ix2 j 0)).toInt.toNat = n.val) :
    truncf .bf16 (Host.gather gather_S4096x2048_S2048x1_S4096x2048_0_1_n_n_1_1_40961 x p) bitsLt_bf16_f32 (ix2 k j) = x (ix2 k n) :=
  Cert.Rope.col_apply (by decide) gather_S4096x2048_S2048x1_S4096x2048_0_1_n_n_1_1_40961_wf x p k j n h

/-- The matrix that the kernel multiplies by. -/
theorem V7 (c : Dev nD) (k : Fin 4096) (j : Fin 2048) :
    V m c main_v7 (ix2 k j) = m ((c : Thread nD τ).loc main_arg1) (ix3 0 k ⟨2048 + (j.val / 128 * 128 + j.val % 64 * 2 + j.val % 128 / 64), by omega⟩) := by
  unfold V
  entry_read
  refine (cols _ _ k j ⟨(j.val / 128 * 128 + j.val % 64 * 2 + j.val % 128 / 64), by omega⟩ ?_).trans ?_
  · pointwise
    refine Eq.trans ?_ (perm j)
    exact congrArg (fun i => (lit0 i).toInt.toNat) (Fin.ext (Shape.rowMajor_val_one _))
  · pointwise
/-- The table of cosines: each head's columns have the pairs' first members before the second. -/
theorem V41 (c : Dev nD) (r : Fin 17408) (j : Fin 128) :
    V m c main_v41 (ix2 r j) = if j.val < 64 then Cert.Rope.COS (r.val % 4352) j.val else Cert.Rope.COS (r.val % 4352) (j.val - 64) := by
  unfold V
  entry_read
  pointwise
  simp only [dite_eq_ite, Cert.Rope.COS, Cert.Rope.SIN, Cert.Rope.ANG]

/-- The table of sines, with the sign of the turn. -/
theorem V46 (c : Dev nD) (r : Fin 17408) (j : Fin 128) :
    V m c main_v46 (ix2 r j) = if j.val < 64 then -Cert.Rope.SIN (r.val % 4352) j.val else Cert.Rope.SIN (r.val % 4352) (j.val - 64) := by
  unfold V
  entry_read
  pointwise
  simp only [dite_eq_ite, Cert.Rope.COS, Cert.Rope.SIN, Cert.Rope.ANG]

/-- The staged rows of the layer's input. -/
theorem b0 (c : Dev nD) (t : Fin cfg0.N) (y : Fin 1024) (k : Fin 4096) (r : Fin 17408) (hr : r.val = t.val / 2 * 1024 + y.val) :
    iblk m c 0 t (ix2 y k) = m ((c : Thread nD τ).loc main_arg0) (ix2 r k) := by
  blk_simp [iblk]
  rw [show (win0_0.blk t).view.emb (ix2 y k) = ix2 r k from by blk_ext [idx t]]
  entry_read
  rfl

/-- The staged columns of the matrix. -/
theorem b1 (c : Dev nD) (t : Fin cfg0.N) (k : Fin 4096) (y : Fin 1024) (j : Fin 2048) (hj : j.val = t.val % 2 * 1024 + y.val) :
    iblk m c 1 t (ix2 k y) = m ((c : Thread nD τ).loc main_arg1) (ix3 0 k ⟨2048 + (j.val / 128 * 128 + j.val % 64 * 2 + j.val % 128 / 64), by omega⟩) := by
  blk_simp [iblk]
  rw [show (win0_1.blk t).view.emb (ix2 k y) = ix2 k j from by blk_ext [idx t]]
  exact V7 m c k j

/-- The staged rows of the cosines. -/
theorem b2 (c : Dev nD) (t : Fin cfg0.N) (y : Fin 1024) (d : Fin 128) (r : Fin 17408) (hr : r.val = t.val / 2 * 1024 + y.val) :
    iblk m c 2 t (ix2 y d) = if d.val < 64 then Cert.Rope.COS (r.val % 4352) d.val else Cert.Rope.COS (r.val % 4352) (d.val - 64) := by
  blk_simp [iblk]
  rw [show (win0_2.blk t).view.emb (ix2 y d) = ix2 r d from by blk_ext [idx t]]
  exact V41 m c r d

/-- The staged rows of the sines. -/
theorem b3 (c : Dev nD) (t : Fin cfg0.N) (y : Fin 1024) (d : Fin 128) (r : Fin 17408) (hr : r.val = t.val / 2 * 1024 + y.val) :
    iblk m c 3 t (ix2 y d) = if d.val < 64 then -Cert.Rope.SIN (r.val % 4352) d.val else Cert.Rope.SIN (r.val % 4352) (d.val - 64) := by
  blk_simp [iblk]
  rw [show (win0_3.blk t).view.emb (ix2 y d) = ix2 r d from by blk_ext [idx t]]
  exact V46 m c r d

/-- The block's product at an entry is the reference's product at the column that the reordering names. -/
theorem acc (c : Dev nD) (t : Fin cfg0.N) (y z : Fin 1024) (r : Fin 17408) (hr : r.val = t.val / 2 * 1024 + y.val) (j n : Fin 2048)
    (hj : j.val = t.val % 2 * 1024 + z.val) (hn : n.val = j.val / 128 * 128 + j.val % 64 * 2 + j.val % 128 / 64) :
    k0_pay5 (iblk m c 0 t) (iblk m c 1 t) (ix2 y z) = Cert.KeyRefIdeal.Read.val_main_v3 (F := Ideal) (m ((c : Thread nD τ).loc main_arg0)) (m ((c : Thread nD τ).loc main_arg1)) (ix2 r n) := by
  rw [Cert.KeyRefIdeal.Read.prod]
  pointwise [k0_pay5]
  exact Finset.sum_congr rfl fun k _ => congrArg₂ (· * ·) (b0 m c t y k r hr) ((b1 m c t k z j hj).trans (congrArg (m ((c : Thread nD τ).loc main_arg1)) (by blk_ext)))

/-- One head's columns of the body's block: the product's columns from `o` on times the cosines, and the same columns
    moved round by half a head times the sines. -/
theorem head (o : Nat) (hs : S1024x1024.Slices ![0, o] S1024x128) (A : FVec Ideal S1024x1024 .f32) (C S : FVec Ideal S1024x128 .f32)
    (y : Fin 1024) (d : Fin 128) (z z' : Fin 1024) (hz : z.val = o + d.val) (hz' : z'.val = o + (d.val + 64) % 128) :
    truncf (F := Ideal) .bf16 (addf (mulf (extractStridedSlice S1024x128 ![0, o] A hs) C)
      (mulf (dynamicRotate 1 64#32 none (extractStridedSlice S1024x128 ![0, o] A hs) rotates_S1024x128_d1) S)) bitsLt_bf16_f32 (ix2 y d)
    = A (ix2 y z) * C (ix2 y d) + A (ix2 y z') * S (ix2 y d) := by
  have hd := d.isLt
  pointwise
  exact congrArg₂ (· + ·) (congrArg (fun n => A (ix2 y n) * C (ix2 y d)) (Fin.ext hz.symm))
    (congrArg (fun n => A (ix2 y n) * S (ix2 y d)) (Fin.ext ((show o + (d.val + 128 - 64) % 128 = _ by omega).trans hz'.symm)))

/-- What the body stores at an index of one head's columns is the reference at the array's index. -/
theorem piece (c : Dev nD) (t : Fin cfg0.N) (o : Nat) (hs : S1024x1024.Slices ![0, o] S1024x128) (ho : o % 128 = 0 ∧ o + 128 ≤ 1024)
    (x : S1024x128.Idx) (y : S1024x1024.Idx) (h0 : (y 0).val = (x 0).val) (h1 : (y 1).val = o + (x 1).val) :
    truncf (F := Ideal) .bf16 (addf (mulf (extractStridedSlice S1024x128 ![0, o] (k0_pay5 (iblk m c 0 t) (iblk m c 1 t)) hs) (k0_pay6 (iblk m c 2 t)))
      (mulf (dynamicRotate 1 64#32 none (extractStridedSlice S1024x128 ![0, o] (k0_pay5 (iblk m c 0 t) (iblk m c 1 t)) hs) rotates_S1024x128_d1)
        (k0_pay7 (iblk m c 3 t)))) bitsLt_bf16_f32 x
    = REF (m ((c : Thread nD τ).loc main_arg0)) (m ((c : Thread nD τ).loc main_arg1)) (((cfg0.win 4).blk t).view.emb y) := by
  have ht : t.val < 34 := t.isLt
  idx_vars x
  idx_vars y
  have hx0 : x0.val < 1024 := x0.isLt
  have hx1 : x1.val < 128 := x1.isLt
  obtain ⟨r, hr⟩ : ∃ r : Fin 17408, r.val = t.val / 2 * 1024 + x0.val := ⟨⟨_, by omega⟩, rfl⟩
  obtain ⟨j, hj⟩ : ∃ j : Fin 2048, j.val = t.val % 2 * 1024 + (o + x1.val) := ⟨⟨_, by omega⟩, rfl⟩
  obtain ⟨j', hj'⟩ : ∃ j' : Fin 2048, j'.val = t.val % 2 * 1024 + (o + (x1.val + 64) % 128) := ⟨⟨_, by omega⟩, rfl⟩
  obtain ⟨n0, hn0⟩ : ∃ n : Fin 2048, n.val = j.val / 128 * 128 + j.val % 64 * 2 := ⟨⟨_, by omega⟩, rfl⟩
  obtain ⟨n1, hn1⟩ : ∃ n : Fin 2048, n.val = j.val / 128 * 128 + j.val % 64 * 2 + 1 := ⟨⟨_, by omega⟩, rfl⟩
  rw [show ((View.whole main_v51).slice ((win0 4).rect t)).emb (ix2 y0 y1) = ix2 r j from by blk_ext [idx t]]
  refine (head o hs _ _ _ x0 x1 ⟨o + x1.val, by omega⟩ ⟨o + (x1.val + 64) % 128, by omega⟩ rfl rfl).trans
    (Eq.trans ?_ (Cert.KeyRefIdeal.Read.turned _ _ r j n0 n1 hn0 hn1).symm)
  rw [show k0_pay6 (iblk m c 2 t) (ix2 x0 x1) = iblk m c 2 t (ix2 x0 x1) from by pointwise [k0_pay6],
    show k0_pay7 (iblk m c 3 t) (ix2 x0 x1) = iblk m c 3 t (ix2 x0 x1) from by pointwise [k0_pay7],
    b2 m c t x0 x1 r hr, b3 m c t x0 x1 r hr]
  by_cases hd : x1.val < 64
  · have e : j.val % 128 < 64 := by omega
    have e' : j.val % 64 = x1.val := by omega
    rw [if_pos hd, if_pos hd, if_pos e, e', acc m c t x0 _ r hr j n0 hj (by omega), acc m c t x0 _ r hr j' n1 hj' (by omega)]
  · have e : ¬ j.val % 128 < 64 := by omega
    have e' : j.val % 64 = x1.val - 64 := by omega
    rw [if_neg hd, if_neg hd, if_neg e, e', acc m c t x0 _ r hr j n1 hj (by omega), acc m c t x0 _ r hr j' n0 hj' (by omega)]

/-- The result array after the run. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]
  canon_tiles x h
  · open_payloads
    exact piece m c t 896 _ (by decide) x y h0 (by omega)
  · open_payloads
    exact piece m c t 768 _ (by decide) x y h0 (by omega)
  · open_payloads
    exact piece m c t 640 _ (by decide) x y h0 (by omega)
  · open_payloads
    exact piece m c t 512 _ (by decide) x y h0 (by omega)
  · open_payloads
    exact piece m c t 384 _ (by decide) x y h0 (by omega)
  · open_payloads
    exact piece m c t 256 _ (by decide) x y h0 (by omega)
  · open_payloads
    exact piece m c t 128 _ (by decide) x y h0 (by omega)
  · open_payloads
    exact piece m c t 0 _ (by decide) x y h0 (by omega)

end Cert.KeyIdeal.Value

end
-- ==== Proof.QueryRef.lean ====
/- The reference of the queries' projection, read entry by entry. -/
module

public import proofs.«01_k».proof.Proof.Rope
public import proofs.«01_k».proof.Proof.Gen.QueryRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QueryRefIdeal.Read

open Cert.QueryRefIdeal

/-- The product at an entry. -/
theorem prod (u : FVec Ideal S17408x4096 .bf16) (w : FVec Ideal S1x4096x13024 .f32) (r : Fin 17408) (n : Fin 2048) :
    val_main_v3 (F := Ideal) u w (ix2 r n) = ∑ k : Fin 4096, u (ix2 r k) * w (ix3 0 k ⟨n.val, by omega⟩) := by
  rw [val_main_v3_apply]
  exact Finset.sum_congr rfl fun k _ => congrArg₂ (· * ·) (congrArg u (show lidx_main_v3 (ix2 r n) k = ix2 r k from by blk_ext)) (by pointwise [val_main_v1, val_main_v2])

/-- The angles of the image tokens. -/
theorem ang (p : Fin 4096) (e : Fin 64) : val_main_v21 (F := Ideal) (ix2 p e) = Cert.Rope.ANG p.val e.val := by
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21]
  simp only [dite_eq_ite, Cert.Rope.ANG]
  rfl

/-- An image token's turned first members of the pairs. -/
theorem x35 (u : FVec Ideal S17408x4096 .bf16) (w : FVec Ideal S1x4096x13024 .f32) (b : Fin 4) (p : Fin 4096) (h : Fin 16) (e : Fin 64)
    (r : Fin 17408) (n0 : Fin 2048) (n1 : Fin 2048) (hr : r.val = b.val * 4352 + (256 + p.val)) (h0 : n0.val = h.val * 128 + e.val * 2) (h1 : n1.val = h.val * 128 + e.val * 2 + 1) :
    val_main_v35 (F := Ideal) u w (ix4 b p h e)
    = val_main_v3 (F := Ideal) u w (ix2 r n0) * Ideal.cos (Cert.Rope.ANG p.val e.val)
      - val_main_v3 (F := Ideal) u w (ix2 r n1) * Ideal.sin (Cert.Rope.ANG p.val e.val) := by
  rw [show r = ⟨b.val * 4352 + (256 + p.val), by omega⟩ from Fin.ext hr]
  rw [show n0 = ⟨h.val * 128 + e.val * 2, by omega⟩ from Fin.ext h0]
  rw [show n1 = ⟨h.val * 128 + e.val * 2 + 1, by omega⟩ from Fin.ext h1]
  pointwise [val_main_v22, val_main_v23, val_main_v24, val_main_v25, val_main_v26, val_main_v27, val_main_v28, val_main_v29, val_main_v30, val_main_v31, val_main_v32, val_main_v33, val_main_v34, val_main_v35]
  rw [ang]

/-- An image token's turned second members of the pairs. -/
theorem x40 (u : FVec Ideal S17408x4096 .bf16) (w : FVec Ideal S1x4096x13024 .f32) (b : Fin 4) (p : Fin 4096) (h : Fin 16) (e : Fin 64)
    (r : Fin 17408) (n0 : Fin 2048) (n1 : Fin 2048) (hr : r.val = b.val * 4352 + (256 + p.val)) (h0 : n0.val = h.val * 128 + e.val * 2) (h1 : n1.val = h.val * 128 + e.val * 2 + 1) :
    val_main_v40 (F := Ideal) u w (ix4 b p h e)
    = val_main_v3 (F := Ideal) u w (ix2 r n0) * Ideal.sin (Cert.Rope.ANG p.val e.val)
      + val_main_v3 (F := Ideal) u w (ix2 r n1) * Ideal.cos (Cert.Rope.ANG p.val e.val) := by
  rw [show r = ⟨b.val * 4352 + (256 + p.val), by omega⟩ from Fin.ext hr]
  rw [show n0 = ⟨h.val * 128 + e.val * 2, by omega⟩ from Fin.ext h0]
  rw [show n1 = ⟨h.val * 128 + e.val * 2 + 1, by omega⟩ from Fin.ext h1]
  pointwise [val_main_v22, val_main_v23, val_main_v24, val_main_v25, val_main_v26, val_main_v27, val_main_v28, val_main_v29, val_main_v30, val_main_v36, val_main_v37, val_main_v38, val_main_v39, val_main_v40]
  rw [ang]

/-- A context token's first members of the pairs. -/
theorem x43 (u : FVec Ideal S17408x4096 .bf16) (w : FVec Ideal S1x4096x13024 .f32) (b : Fin 4) (p : Fin 256) (h : Fin 16) (e : Fin 64)
    (r : Fin 17408) (n0 : Fin 2048) (hr : r.val = b.val * 4352 + p.val) (h0 : n0.val = h.val * 128 + e.val * 2) :
    val_main_v43 (F := Ideal) u w (ix4 b p h e)
    = val_main_v3 (F := Ideal) u w (ix2 r n0) := by
  rw [show r = ⟨b.val * 4352 + p.val, by omega⟩ from Fin.ext hr]
  rw [show n0 = ⟨h.val * 128 + e.val * 2, by omega⟩ from Fin.ext h0]
  pointwise [val_main_v26, val_main_v42, val_main_v43]

/-- A context token's second members of the pairs. -/
theorem x45 (u : FVec Ideal S17408x4096 .bf16) (w : FVec Ideal S1x4096x13024 .f32) (b : Fin 4) (p : Fin 256) (h : Fin 16) (e : Fin 64)
    (r : Fin 17408) (n1 : Fin 2048) (hr : r.val = b.val * 4352 + p.val) (h1 : n1.val = h.val * 128 + e.val * 2 + 1) :
    val_main_v45 (F := Ideal) u w (ix4 b p h e)
    = val_main_v3 (F := Ideal) u w (ix2 r n1) := by
  rw [show r = ⟨b.val * 4352 + p.val, by omega⟩ from Fin.ext hr]
  rw [show n1 = ⟨h.val * 128 + e.val * 2 + 1, by omega⟩ from Fin.ext h1]
  pointwise [val_main_v26, val_main_v44, val_main_v45]

set_option maxHeartbeats 2000000 in
/-- The product's columns turned: column `j` of a head from the two columns `n0`, `n1` of its pair. -/
theorem turned (u : FVec Ideal S17408x4096 .bf16) (w : FVec Ideal S1x4096x13024 .f32) (r : Fin 17408) (j n0 n1 : Fin 2048)
    (h0 : n0.val = j.val / 128 * 128 + j.val % 64 * 2) (h1 : n1.val = j.val / 128 * 128 + j.val % 64 * 2 + 1) :
    val_main_v48 (F := Ideal) u w (ix2 r j) = if j.val % 128 < 64
      then val_main_v3 (F := Ideal) u w (ix2 r n0) * Cert.Rope.COS (r.val % 4352) (j.val % 64)
        + val_main_v3 (F := Ideal) u w (ix2 r n1) * -Cert.Rope.SIN (r.val % 4352) (j.val % 64)
      else val_main_v3 (F := Ideal) u w (ix2 r n1) * Cert.Rope.COS (r.val % 4352) (j.val % 64)
        + val_main_v3 (F := Ideal) u w (ix2 r n0) * Cert.Rope.SIN (r.val % 4352) (j.val % 64) := by
  pointwise [val_main_v41, val_main_v46, val_main_v47, val_main_v48]
  by_cases hl : r.val % 4352 < 256
  · by_cases hj : j.val % 128 < 64
    · have e : j.val % 128 = j.val % 64 := by omega
      refine ((dif_pos hl).trans (dif_pos hj)).trans (Eq.trans ?_ (if_pos hj).symm)
      refine (x43 u w _ _ _ _ r n0 (by dsimp only; omega) (by dsimp only; omega)).trans ?_
      simp only [Cert.Rope.COS, Cert.Rope.SIN, if_pos hl, e, mul_one, neg_zero, mul_zero, add_zero]
    · have e : j.val % 128 - 64 = j.val % 64 := by omega
      refine ((dif_pos hl).trans (dif_neg hj)).trans (Eq.trans ?_ (if_neg hj).symm)
      refine (x45 u w _ _ _ _ r n1 (by dsimp only; omega) (by dsimp only; omega)).trans ?_
      simp only [Cert.Rope.COS, Cert.Rope.SIN, if_pos hl, e, mul_one, mul_zero, add_zero]
  · by_cases hj : j.val % 128 < 64
    · have e : j.val % 128 = j.val % 64 := by omega
      refine ((dif_neg hl).trans (dif_pos hj)).trans (Eq.trans ?_ (if_pos hj).symm)
      refine (x35 u w _ _ _ _ r n0 n1 (by dsimp only; omega) (by dsimp only; omega) (by dsimp only; omega)).trans ?_
      simp only [Cert.Rope.COS, Cert.Rope.SIN, if_neg hl, e, mul_neg, ← sub_eq_add_neg]
    · have e : j.val % 128 - 64 = j.val % 64 := by omega
      refine ((dif_neg hl).trans (dif_neg hj)).trans (Eq.trans ?_ (if_neg hj).symm)
      refine (x40 u w _ _ _ _ r n0 n1 (by dsimp only; omega) (by dsimp only; omega) (by dsimp only; omega)).trans ?_
      simp only [Cert.Rope.COS, Cert.Rope.SIN, if_neg hl, e]
      exact add_comm _ _

/-- The result: the turned product times the scale. -/
theorem scaled (u : FVec Ideal S17408x4096 .bf16) (w : FVec Ideal S1x4096x13024 .f32) (r : Fin 17408) (j : Fin 2048) :
    val_main_v51 (F := Ideal) u w (ix2 r j) = val_main_v48 (F := Ideal) u w (ix2 r j) * Cert.Rope.SC := by
  pointwise [val_main_v49, val_main_v50, val_main_v51]
  rfl

end Cert.QueryRefIdeal.Read

end
-- ==== Proof.Query.lean ====
/- The projection of the attention's queries with their rotary position: after its run the result array is the reference's. -/
module

public import proofs.«01_k».proof.Proof.QueryRef
public import proofs.«01_k».proof.Proof.Gen.QueryIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QueryIdeal.Value

open Cert.QueryIdeal Cert.QueryIdeal.Gen

variable (m : (ℓ : Loc nD τ sig) → Buf (Elt Ideal) ℓ)

/-- The reference's result as a function of the arguments. -/
abbrev REF (u : FVec Ideal S17408x4096 .bf16) (w : FVec Ideal S1x4096x13024 .f32) : FVec Ideal S17408x2048 .bf16 :=
  Cert.QueryRefIdeal.Read.val_main_v51 (F := Ideal) u w

/-- The blocks that the windows stage at a point, over the whole grid. -/
theorem idx : ∀ t : Fin cfg0.N, win0_0.index t = ![t.val / 2, 0] ∧ win0_1.index t = ![0, t.val % 2]
    ∧ win0_2.index t = ![t.val / 2, 0] ∧ win0_3.index t = ![t.val / 2, 0] ∧ win0_4.index t = ![t.val / 2, t.val % 2] :=
  (by decide +kernel : ∀ t : Fin grid0.N, _)

/-- The order of the columns: a head's even columns, then its odd ones. -/
theorem perm : ∀ j : Fin 2048, (lit0 j).toInt.toNat = j.val / 128 * 128 + j.val % 64 * 2 + j.val % 128 / 64 :=
  by decide +kernel

/-- A column of the reordered matrix. -/
theorem cols (x : FVec Ideal S4096x2048 .f32) (p : IVec S2048x1 32) (k : Fin 4096) (j n : Fin 2048) (h : (p (ix2 j 0)).toInt.toNat = n.val) :
    truncf .bf16 (Host.gather gather_S4096x2048_S2048x1_S4096x2048_0_1_n_n_1_1_40961 x p) bitsLt_bf16_f32 (ix2 k j) = x (ix2 k n) :=
  Cert.Rope.col_apply (by decide) gather_S4096x2048_S2048x1_S4096x2048_0_1_n_n_1_1_40961_wf x p k j n h

/-- The matrix that the kernel multiplies by. -/
theorem V7 (c : Dev nD) (k : Fin 4096) (j : Fin 2048) :
    V m c main_v7 (ix2 k j) = m ((c : Thread nD τ).loc main_arg1) (ix3 0 k ⟨j.val / 128 * 128 + j.val % 64 * 2 + j.val % 128 / 64, by omega⟩) := by
  unfold V
  entry_read
  refine (cols _ _ k j ⟨(j.val / 128 * 128 + j.val % 64 * 2 + j.val % 128 / 64), by omega⟩ ?_).trans ?_
  · pointwise
    refine Eq.trans ?_ (perm j)
    exact congrArg (fun i => (lit0 i).toInt.toNat) (Fin.ext (Shape.rowMajor_val_one _))
  · pointwise
/-- The table of cosines times the scale: each head's columns have the pairs' first members before the second. -/
theorem V48 (c : Dev nD) (r : Fin 17408) (j : Fin 128) :
    V m c main_v48 (ix2 r j) = (if j.val < 64 then Cert.Rope.COS (r.val % 4352) j.val else Cert.Rope.COS (r.val % 4352) (j.val - 64)) * Cert.Rope.SC := by
  unfold V
  entry_read
  pointwise
  simp only [dite_eq_ite, Cert.Rope.COS, Cert.Rope.SIN, Cert.Rope.ANG, Cert.Rope.SC]

/-- The table of sines, with the sign of the turn, times the scale. -/
theorem V50 (c : Dev nD) (r : Fin 17408) (j : Fin 128) :
    V m c main_v50 (ix2 r j) = (if j.val < 64 then -Cert.Rope.SIN (r.val % 4352) j.val else Cert.Rope.SIN (r.val % 4352) (j.val - 64)) * Cert.Rope.SC := by
  unfold V
  entry_read
  pointwise
  simp only [dite_eq_ite, Cert.Rope.COS, Cert.Rope.SIN, Cert.Rope.ANG, Cert.Rope.SC]

/-- The staged rows of the layer's input. -/
theorem b0 (c : Dev nD) (t : Fin cfg0.N) (y : Fin 1024) (k : Fin 4096) (r : Fin 17408) (hr : r.val = t.val / 2 * 1024 + y.val) :
    iblk m c 0 t (ix2 y k) = m ((c : Thread nD τ).loc main_arg0) (ix2 r k) := by
  blk_simp [iblk]
  rw [show (win0_0.blk t).view.emb (ix2 y k) = ix2 r k from by blk_ext [idx t]]
  entry_read
  rfl

/-- The staged columns of the matrix. -/
theorem b1 (c : Dev nD) (t : Fin cfg0.N) (k : Fin 4096) (y : Fin 1024) (j : Fin 2048) (hj : j.val = t.val % 2 * 1024 + y.val) :
    iblk m c 1 t (ix2 k y) = m ((c : Thread nD τ).loc main_arg1) (ix3 0 k ⟨j.val / 128 * 128 + j.val % 64 * 2 + j.val % 128 / 64, by omega⟩) := by
  blk_simp [iblk]
  rw [show (win0_1.blk t).view.emb (ix2 k y) = ix2 k j from by blk_ext [idx t]]
  exact V7 m c k j

/-- The staged rows of the cosines. -/
theorem b2 (c : Dev nD) (t : Fin cfg0.N) (y : Fin 1024) (d : Fin 128) (r : Fin 17408) (hr : r.val = t.val / 2 * 1024 + y.val) :
    iblk m c 2 t (ix2 y d) = (if d.val < 64 then Cert.Rope.COS (r.val % 4352) d.val else Cert.Rope.COS (r.val % 4352) (d.val - 64)) * Cert.Rope.SC := by
  blk_simp [iblk]
  rw [show (win0_2.blk t).view.emb (ix2 y d) = ix2 r d from by blk_ext [idx t]]
  exact V48 m c r d

/-- The staged rows of the sines. -/
theorem b3 (c : Dev nD) (t : Fin cfg0.N) (y : Fin 1024) (d : Fin 128) (r : Fin 17408) (hr : r.val = t.val / 2 * 1024 + y.val) :
    iblk m c 3 t (ix2 y d) = (if d.val < 64 then -Cert.Rope.SIN (r.val % 4352) d.val else Cert.Rope.SIN (r.val % 4352) (d.val - 64)) * Cert.Rope.SC := by
  blk_simp [iblk]
  rw [show (win0_3.blk t).view.emb (ix2 y d) = ix2 r d from by blk_ext [idx t]]
  exact V50 m c r d

/-- The block's product at an entry is the reference's product at the column that the reordering names. -/
theorem acc (c : Dev nD) (t : Fin cfg0.N) (y z : Fin 1024) (r : Fin 17408) (hr : r.val = t.val / 2 * 1024 + y.val) (j n : Fin 2048)
    (hj : j.val = t.val % 2 * 1024 + z.val) (hn : n.val = j.val / 128 * 128 + j.val % 64 * 2 + j.val % 128 / 64) :
    k0_pay5 (iblk m c 0 t) (iblk m c 1 t) (ix2 y z) = Cert.QueryRefIdeal.Read.val_main_v3 (F := Ideal) (m ((c : Thread nD τ).loc main_arg0)) (m ((c : Thread nD τ).loc main_arg1)) (ix2 r n) := by
  rw [Cert.QueryRefIdeal.Read.prod]
  pointwise [k0_pay5]
  exact Finset.sum_congr rfl fun k _ => congrArg₂ (· * ·) (b0 m c t y k r hr) ((b1 m c t k z j hj).trans (congrArg (m ((c : Thread nD τ).loc main_arg1)) (by blk_ext)))

/-- One head's columns of the body's block: the product's columns from `o` on times the cosines, and the same columns
    moved round by half a head times the sines. -/
theorem head (o : Nat) (hs : S1024x1024.Slices ![0, o] S1024x128) (A : FVec Ideal S1024x1024 .f32) (C S : FVec Ideal S1024x128 .f32)
    (y : Fin 1024) (d : Fin 128) (z z' : Fin 1024) (hz : z.val = o + d.val) (hz' : z'.val = o + (d.val + 64) % 128) :
    truncf (F := Ideal) .bf16 (addf (mulf (extractStridedSlice S1024x128 ![0, o] A hs) C)
      (mulf (dynamicRotate 1 64#32 none (extractStridedSlice S1024x128 ![0, o] A hs) rotates_S1024x128_d1) S)) bitsLt_bf16_f32 (ix2 y d)
    = A (ix2 y z) * C (ix2 y d) + A (ix2 y z') * S (ix2 y d) := by
  have hd := d.isLt
  pointwise
  exact congrArg₂ (· + ·) (congrArg (fun n => A (ix2 y n) * C (ix2 y d)) (Fin.ext hz.symm))
    (congrArg (fun n => A (ix2 y n) * S (ix2 y d)) (Fin.ext ((show o + (d.val + 128 - 64) % 128 = _ by omega).trans hz'.symm)))

/-- What the body stores at an index of one head's columns is the reference at the array's index. -/
theorem piece (c : Dev nD) (t : Fin cfg0.N) (o : Nat) (hs : S1024x1024.Slices ![0, o] S1024x128) (ho : o % 128 = 0 ∧ o + 128 ≤ 1024)
    (x : S1024x128.Idx) (y : S1024x1024.Idx) (h0 : (y 0).val = (x 0).val) (h1 : (y 1).val = o + (x 1).val) :
    truncf (F := Ideal) .bf16 (addf (mulf (extractStridedSlice S1024x128 ![0, o] (k0_pay5 (iblk m c 0 t) (iblk m c 1 t)) hs) (k0_pay6 (iblk m c 2 t)))
      (mulf (dynamicRotate 1 64#32 none (extractStridedSlice S1024x128 ![0, o] (k0_pay5 (iblk m c 0 t) (iblk m c 1 t)) hs) rotates_S1024x128_d1)
        (k0_pay7 (iblk m c 3 t)))) bitsLt_bf16_f32 x
    = REF (m ((c : Thread nD τ).loc main_arg0)) (m ((c : Thread nD τ).loc main_arg1)) (((cfg0.win 4).blk t).view.emb y) := by
  have ht : t.val < 34 := t.isLt
  idx_vars x
  idx_vars y
  have hx0 : x0.val < 1024 := x0.isLt
  have hx1 : x1.val < 128 := x1.isLt
  obtain ⟨r, hr⟩ : ∃ r : Fin 17408, r.val = t.val / 2 * 1024 + x0.val := ⟨⟨_, by omega⟩, rfl⟩
  obtain ⟨j, hj⟩ : ∃ j : Fin 2048, j.val = t.val % 2 * 1024 + (o + x1.val) := ⟨⟨_, by omega⟩, rfl⟩
  obtain ⟨j', hj'⟩ : ∃ j' : Fin 2048, j'.val = t.val % 2 * 1024 + (o + (x1.val + 64) % 128) := ⟨⟨_, by omega⟩, rfl⟩
  obtain ⟨n0, hn0⟩ : ∃ n : Fin 2048, n.val = j.val / 128 * 128 + j.val % 64 * 2 := ⟨⟨_, by omega⟩, rfl⟩
  obtain ⟨n1, hn1⟩ : ∃ n : Fin 2048, n.val = j.val / 128 * 128 + j.val % 64 * 2 + 1 := ⟨⟨_, by omega⟩, rfl⟩
  rw [show ((View.whole main_v51).slice ((win0 4).rect t)).emb (ix2 y0 y1) = ix2 r j from by blk_ext [idx t]]
  refine (head o hs _ _ _ x0 x1 ⟨o + x1.val, by omega⟩ ⟨o + (x1.val + 64) % 128, by omega⟩ rfl rfl).trans
    (Eq.trans ?_ (Cert.QueryRefIdeal.Read.scaled _ _ r j).symm)
  rw [Cert.QueryRefIdeal.Read.turned _ _ r j n0 n1 hn0 hn1]
  rw [show k0_pay6 (iblk m c 2 t) (ix2 x0 x1) = iblk m c 2 t (ix2 x0 x1) from by pointwise [k0_pay6],
    show k0_pay7 (iblk m c 3 t) (ix2 x0 x1) = iblk m c 3 t (ix2 x0 x1) from by pointwise [k0_pay7],
    b2 m c t x0 x1 r hr, b3 m c t x0 x1 r hr]
  by_cases hd : x1.val < 64
  · have e : j.val % 128 < 64 := by omega
    have e' : j.val % 64 = x1.val := by omega
    rw [if_pos hd, if_pos hd, if_pos e, e', acc m c t x0 _ r hr j n0 hj (by omega), acc m c t x0 _ r hr j' n1 hj' (by omega)]
    exact Cert.Rope.scale _ _ _ _
  · have e : ¬ j.val % 128 < 64 := by omega
    have e' : j.val % 64 = x1.val - 64 := by omega
    rw [if_neg hd, if_neg hd, if_neg e, e', acc m c t x0 _ r hr j n1 hj (by omega), acc m c t x0 _ r hr j' n0 hj' (by omega)]
    exact Cert.Rope.scale _ _ _ _

/-- The result array after the run. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]
  canon_tiles x h
  · open_payloads
    exact piece m c t 896 _ (by decide) x y h0 (by omega)
  · open_payloads
    exact piece m c t 768 _ (by decide) x y h0 (by omega)
  · open_payloads
    exact piece m c t 640 _ (by decide) x y h0 (by omega)
  · open_payloads
    exact piece m c t 512 _ (by decide) x y h0 (by omega)
  · open_payloads
    exact piece m c t 384 _ (by decide) x y h0 (by omega)
  · open_payloads
    exact piece m c t 256 _ (by decide) x y h0 (by omega)
  · open_payloads
    exact piece m c t 128 _ (by decide) x y h0 (by omega)
  · open_payloads
    exact piece m c t 0 _ (by decide) x y h0 (by omega)

end Cert.QueryIdeal.Value

end
-- ==== Proof.lean ====
module

public import proofs.«01_k».proof.Defs
public import proofs.«01_k».proof.Proof.Attn
public import proofs.«01_k».proof.Proof.Feat
public import proofs.«01_k».proof.Proof.Finite
public import proofs.«01_k».proof.Proof.Rw
public import proofs.«01_k».proof.Proof.Val
public import proofs.«01_k».proof.Proof.Out
public import proofs.«01_k».proof.Proof.Shared
public import proofs.«01_k».proof.Proof.Combine
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Rw
public import proofs.«01_k».proof.Proof.Gen.Rw.Frame
public import proofs.«01_k».proof.Proof.Gen.RwIdeal
public import proofs.«01_k».proof.Proof.Gen.RwIdeal.Frame
public import proofs.«01_k».proof.Proof.Gen.RwIdeal.Value
public import proofs.«01_k».proof.Proof.Gen.RwRefIdeal
public import proofs.«01_k».proof.Proof.Gen.RwRefIdeal.Read
public import proofs.«01_k».proof.Proof.Gen.RwRefIdeal.Run
public import proofs.«01_k».proof.Proof.Gen.Val
public import proofs.«01_k».proof.Proof.Gen.Val.Frame
public import proofs.«01_k».proof.Proof.Gen.ValIdeal
public import proofs.«01_k».proof.Proof.Gen.ValIdeal.Frame
public import proofs.«01_k».proof.Proof.Gen.ValIdeal.Value
public import proofs.«01_k».proof.Proof.Gen.ValRefIdeal
public import proofs.«01_k».proof.Proof.Gen.ValRefIdeal.Read
public import proofs.«01_k».proof.Proof.Gen.ValRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Read
public import proofs.«01_k».proof.Proof.Gen.OutRefIdeal.Run
public import proofs.«01_k».proof.Proof.Gen.Shared
public import proofs.«01_k».proof.Proof.Gen.Shared.Frame
public import proofs.«01_k».proof.Proof.Gen.SharedIdeal
public import proofs.«01_k».proof.Proof.Gen.SharedIdeal.Frame
public import proofs.«01_k».proof.Proof.Gen.SharedIdeal.Value
public import proofs.«01_k».proof.Proof.Gen.SharedRefIdeal
public import proofs.«01_k».proof.Proof.Gen.SharedRefIdeal.Read
public import proofs.«01_k».proof.Proof.Gen.SharedRefIdeal.Run
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Read
public import proofs.«01_k».proof.Proof.Gen.CombineRefIdeal.Run
public import proofs.«01_k».proof.Proof.Gen.Key
public import proofs.«01_k».proof.Proof.Gen.Key.Frame
public import proofs.«01_k».proof.Proof.Gen.KeyIdeal
public import proofs.«01_k».proof.Proof.Gen.KeyIdeal.Frame
public import proofs.«01_k».proof.Proof.Gen.KeyIdeal.Value
public import proofs.«01_k».proof.Proof.Gen.KeyRefIdeal
public import proofs.«01_k».proof.Proof.Gen.KeyRefIdeal.Read
public import proofs.«01_k».proof.Proof.Gen.KeyRefIdeal.Run
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Read
public import proofs.«01_k».proof.Proof.Gen.QueryRefIdeal.Run
public import proofs.«01_k».proof.Proof.Gen.Feat
public import proofs.«01_k».proof.Proof.Gen.Feat.Frame
public import proofs.«01_k».proof.Proof.Gen.FeatIdeal
public import proofs.«01_k».proof.Proof.Gen.FeatIdeal.Frame
public import proofs.«01_k».proof.Proof.Gen.FeatIdeal.Value
public import proofs.«01_k».proof.Proof.Gen.FeatRefIdeal
public import proofs.«01_k».proof.Proof.Gen.FeatRefIdeal.Read
public import proofs.«01_k».proof.Proof.Gen.FeatRefIdeal.Run
public import proofs.«01_k».proof.Proof.Gen.Pre_finite
public import proofs.«01_k».proof.Proof.Key
public import proofs.«01_k».proof.Proof.Query
public import Idealize.ShloMosaic.Adequacy
public import Idealize.ShloMosaic.Init

@[expose] public section

noncomputable section

namespace Cert.Proof

open Idealize.ShloMosaic Idealize.SL.Sem

/-- The differential attention: for finite arguments the kernel's result is the reference's. -/
theorem attn : Cert.algebraic_KernelIdeal_ReferenceIdeal_pre_finite := by
  pair_intro
  · run_from Cert.KernelIdeal.Value.run_blocks m g
  · run_from Cert.ReferenceIdeal.Value.run m' g'
    obtain ⟨a0, a1, a2, a3, a4⟩ := hagree c
    obtain ⟨fq, fk, fv, fl⟩ := Cert.Pre_finite.Value.elems _ _ _ _ _ (hpre c)
    refine (Cert.ReferenceIdeal.Read.val_main_v62_eq m' c).trans ?_
    rw [a0, a1, a2, a3, a4]
    exact (Cert.KernelIdeal.Value.final m c _ _ _ _ _ rfl rfl rfl rfl rfl fq fk fv fl).symm

/-- The projection to the recurrence's columns: the kernel's result is the reference's. -/
theorem rw : Cert.algebraic_RwIdeal_RwRefIdeal := by
  pair_intro
  · run_from Cert.RwIdeal.Value.run_blocks m g
  · run_from Cert.RwRefIdeal.Value.run m' g'
    rw [Cert.RwIdeal.Value.final m c]
    exact Cert.RwRefIdeal.Read.val_main_v5_eq _ _

/-- The projection to the values: the kernel's result is the reference's. -/
theorem val : Cert.algebraic_ValIdeal_ValRefIdeal := by
  pair_intro
  · run_from Cert.ValIdeal.Value.run_blocks m g
  · run_from Cert.ValRefIdeal.Value.run m' g'
    rw [Cert.ValIdeal.Value.final m c]
    exact Cert.ValRefIdeal.Read.val_main_v4_eq _ _

/-- The output projection: the kernel's result is the reference's. -/
theorem out : Cert.algebraic_OutIdeal_OutRefIdeal := by
  pair_intro
  · run_from Cert.OutIdeal.Value.run_blocks m g
  · run_from Cert.OutRefIdeal.Value.run m' g'
    rw [Cert.OutIdeal.Value.final m c]
    exact Cert.OutRefIdeal.Read.val_main_v6_eq _ _ _

/-- The shared expert: the kernel's result is the reference's. -/
theorem shared : Cert.algebraic_SharedIdeal_SharedRefIdeal := by
  pair_intro
  · run_from Cert.SharedIdeal.Value.run_blocks m g
  · run_from Cert.SharedRefIdeal.Value.run m' g'
    rw [Cert.SharedIdeal.Value.final m c]
    exact Cert.SharedRefIdeal.Read.val_main_v9_eq _ _ _ _

/-- The last call: the kernel's result is the reference's. -/
theorem combine : Cert.algebraic_CombineIdeal_CombineRefIdeal := by
  pair_intro
  · run_from Cert.CombineIdeal.Value.run_blocks m g
  · run_from Cert.CombineRefIdeal.Value.run m' g'
    rw [Cert.CombineIdeal.Value.final m c]
    exact Cert.CombineRefIdeal.Read.val_main_v29_eq _ _ _ _ _

/-- The projection to the keys, turned by the position: the kernel's result is the reference's. -/
theorem key : Cert.algebraic_KeyIdeal_KeyRefIdeal := by
  pair_intro
  · run_from Cert.KeyIdeal.Value.run_blocks m g
  · run_from Cert.KeyRefIdeal.Value.run m' g'
    obtain ⟨a0, a1⟩ := hagree c
    refine (Cert.KeyRefIdeal.Read.val_main_v49_eq m' c).trans ?_
    rw [a0, a1]
    exact (Cert.KeyIdeal.Value.final m c).symm

/-- The projection to the queries, turned by the position and scaled: the kernel's result is the reference's. -/
theorem query : Cert.algebraic_QueryIdeal_QueryRefIdeal := by
  pair_intro
  · run_from Cert.QueryIdeal.Value.run_blocks m g
  · run_from Cert.QueryRefIdeal.Value.run m' g'
    obtain ⟨a0, a1⟩ := hagree c
    refine (Cert.QueryRefIdeal.Read.val_main_v51_eq m' c).trans ?_
    rw [a0, a1]
    exact (Cert.QueryIdeal.Value.final m c).symm

/-- The features of the recurrences: the kernel's results are the reference's. -/
theorem feat : Cert.algebraic_FeatIdeal_FeatRefIdeal := by
  intro m g m' g' _ hagree
  refine ⟨fun c : Dev Cert.FeatIdeal.nD => Cert.FeatRefIdeal.Read.val_main_v133 (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)),
    fun c : Dev Cert.FeatIdeal.nD => Cert.FeatRefIdeal.Read.val_main_v134 (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)),
    fun c : Dev Cert.FeatIdeal.nD => Cert.FeatRefIdeal.Read.val_main_v64 (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)) (m ((c.tc : Thread Cert.FeatIdeal.nD Cert.FeatIdeal.τ).loc Cert.FeatIdeal.main_arg3)) (m ((c.tc : Thread Cert.FeatIdeal.nD Cert.FeatIdeal.τ).loc Cert.FeatIdeal.main_arg4)),
    fun c : Dev Cert.FeatIdeal.nD => Cert.FeatRefIdeal.Read.val_main_v102 (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)) (m ((c.tc : Thread Cert.FeatIdeal.nD Cert.FeatIdeal.τ).loc Cert.FeatIdeal.main_arg3)) (m ((c.tc : Thread Cert.FeatIdeal.nD Cert.FeatIdeal.τ).loc Cert.FeatIdeal.main_arg4)),
    fun c : Dev Cert.FeatIdeal.nD => Cert.FeatRefIdeal.Read.val_main_v135 (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)) (m ((c.tc : Thread Cert.FeatIdeal.nD Cert.FeatIdeal.τ).loc Cert.FeatIdeal.main_arg2)) (m ((c.tc : Thread Cert.FeatIdeal.nD Cert.FeatIdeal.τ).loc Cert.FeatIdeal.main_arg5)) (m ((c.tc : Thread Cert.FeatIdeal.nD Cert.FeatIdeal.τ).loc Cert.FeatIdeal.main_arg6)),
    fun c : Dev Cert.FeatIdeal.nD => Cert.FeatRefIdeal.Read.val_main_v136 (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)) (m ((c.tc : Thread Cert.FeatIdeal.nD Cert.FeatIdeal.τ).loc Cert.FeatIdeal.main_arg2)) (m ((c.tc : Thread Cert.FeatIdeal.nD Cert.FeatIdeal.τ).loc Cert.FeatIdeal.main_arg5)) (m ((c.tc : Thread Cert.FeatIdeal.nD Cert.FeatIdeal.τ).loc Cert.FeatIdeal.main_arg6)),
    fun c : Dev Cert.FeatIdeal.nD => Cert.FeatRefIdeal.Read.val_main_v137 (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)) (m ((c.tc : Thread Cert.FeatIdeal.nD Cert.FeatIdeal.τ).loc Cert.FeatIdeal.main_arg7)),
    ?_, ?_⟩
  · refine (θ_run _ _ _).mono (fun r h c => ?_) (Cert.FeatIdeal.Value.run_blocks m g)
    obtain ⟨h0, h1, _, h3, h4, _, _, h7, h8, _, h10, ha⟩ := h c
    exact ⟨h0.trans (Cert.FeatIdeal.Value.fin12 m c), h1.trans (Cert.FeatIdeal.Value.fin13 m c), h3.trans (Cert.FeatIdeal.Value.fin15 m c), h4.trans (Cert.FeatIdeal.Value.fin16 m c), h7.trans (Cert.FeatIdeal.Value.fin19 m c), h8.trans (Cert.FeatIdeal.Value.fin20 m c), h10.trans (Cert.FeatIdeal.Value.fin22 m c), ha⟩
  · refine (θ_run _ _ _).mono (fun r h c => ?_) (Cert.FeatRefIdeal.Value.run (F := Ideal) m' g')
    obtain ⟨h0, h1, h2, h3, h4, h5, h6, ha⟩ := h c
    obtain ⟨a0, a1, a2, a3, a4, a5, a6, a7, a8, a9⟩ := hagree c
    beta_reduce
    rw [← a0, ← a1, ← a2, ← a3, ← a4, ← a5, ← a6, ← a7]
    exact ⟨h0.trans (Cert.FeatRefIdeal.Read.val_main_v133_eq _), h1.trans (Cert.FeatRefIdeal.Read.val_main_v134_eq _), h2.trans (Cert.FeatRefIdeal.Read.val_main_v64_eq _), h3.trans (Cert.FeatRefIdeal.Read.val_main_v102_eq _), h4.trans (Cert.FeatRefIdeal.Read.val_main_v135_eq _), h5.trans (Cert.FeatRefIdeal.Read.val_main_v136_eq _), h6.trans (Cert.FeatRefIdeal.Read.val_main_v137_eq _), ha⟩

/-- The reference Reference runs and leaves its arguments alone; it declares no counter. -/
theorem fr_Reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference RwRef runs and leaves its arguments alone; it declares no counter. -/
theorem fr_RwRef : Cert.quiescent_RwRefIdeal := fun m ρ _ =>
  (θ_run Cert.RwRefIdeal.defs _ _).mono (fun r h => ⟨fun c => (h c).2, Idealize.ShloMosaic.sem_eq_zero_of_no_sems (by decide) r.2⟩)
    (Cert.RwRefIdeal.Value.run (F := Ideal) m ρ)

/-- The reference ValRef runs and leaves its arguments alone; it declares no counter. -/
theorem fr_ValRef : Cert.quiescent_ValRefIdeal := fun m ρ _ =>
  (θ_run Cert.ValRefIdeal.defs _ _).mono (fun r h => ⟨fun c => (h c).2, Idealize.ShloMosaic.sem_eq_zero_of_no_sems (by decide) r.2⟩)
    (Cert.ValRefIdeal.Value.run (F := Ideal) m ρ)

/-- The reference OutRef runs and leaves its arguments alone; it declares no counter. -/
theorem fr_OutRef : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- The reference SharedRef runs and leaves its arguments alone; it declares no counter. -/
theorem fr_SharedRef : Cert.quiescent_SharedRefIdeal := fun m ρ _ =>
  (θ_run Cert.SharedRefIdeal.defs _ _).mono (fun r h => ⟨fun c => (h c).2, Idealize.ShloMosaic.sem_eq_zero_of_no_sems (by decide) r.2⟩)
    (Cert.SharedRefIdeal.Value.run (F := Ideal) m ρ)

/-- The reference CombineRef runs and leaves its arguments alone; it declares no counter. -/
theorem fr_CombineRef : Cert.quiescent_CombineRefIdeal := fun m ρ _ =>
  (θ_run Cert.CombineRefIdeal.defs _ _).mono (fun r h => ⟨fun c => (h c).2, Idealize.ShloMosaic.sem_eq_zero_of_no_sems (by decide) r.2⟩)
    (Cert.CombineRefIdeal.Value.run (F := Ideal) m ρ)

/-- The reference KeyRef runs and leaves its arguments alone; it declares no counter. -/
theorem fr_KeyRef : Cert.quiescent_KeyRefIdeal := fun m ρ _ =>
  (θ_run Cert.KeyRefIdeal.defs _ _).mono (fun r h => ⟨fun c => (h c).2, Idealize.ShloMosaic.sem_eq_zero_of_no_sems (by decide) r.2⟩)
    (Cert.KeyRefIdeal.Value.run (F := Ideal) m ρ)

/-- The reference QueryRef runs and leaves its arguments alone; it declares no counter. -/
theorem fr_QueryRef : Cert.quiescent_QueryRefIdeal := fun m ρ _ =>
  (θ_run Cert.QueryRefIdeal.defs _ _).mono (fun r h => ⟨fun c => (h c).2, Idealize.ShloMosaic.sem_eq_zero_of_no_sems (by decide) r.2⟩)
    (Cert.QueryRefIdeal.Value.run (F := Ideal) m ρ)

/-- The reference FeatRef runs and leaves its arguments alone; it declares no counter. -/
theorem fr_FeatRef : Cert.quiescent_FeatRefIdeal := fun m ρ _ =>
  (θ_run Cert.FeatRefIdeal.defs _ _).mono (fun r h => ⟨fun c => (h c).2.2.2.2.2.2.2, Idealize.ShloMosaic.sem_eq_zero_of_no_sems (by decide) r.2⟩)
    (Cert.FeatRefIdeal.Value.run (F := Ideal) m ρ)

/-- Every claim. -/
theorem claim : Cert.Claim := ⟨Cert.Kernel.Gen.facts, Cert.KernelIdeal.Gen.facts, Cert.ReferenceIdeal.Gen.facts, Cert.Rw.Gen.facts, Cert.RwIdeal.Gen.facts, Cert.RwRefIdeal.Gen.facts, Cert.Val.Gen.facts, Cert.ValIdeal.Gen.facts, Cert.ValRefIdeal.Gen.facts, Cert.Out.Gen.facts, Cert.OutIdeal.Gen.facts, Cert.OutRefIdeal.Gen.facts, Cert.Shared.Gen.facts, Cert.SharedIdeal.Gen.facts, Cert.SharedRefIdeal.Gen.facts, Cert.Combine.Gen.facts, Cert.CombineIdeal.Gen.facts, Cert.CombineRefIdeal.Gen.facts, Cert.Key.Gen.facts, Cert.KeyIdeal.Gen.facts, Cert.KeyRefIdeal.Gen.facts, Cert.Query.Gen.facts, Cert.QueryIdeal.Gen.facts, Cert.QueryRefIdeal.Gen.facts, Cert.Feat.Gen.facts, Cert.FeatIdeal.Gen.facts, Cert.FeatRefIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fr_Reference,
  fun m ρ _ => fr_Reference m ρ trivial,
  fun m ρ _ => Cert.Rw.Gen.frame m ρ,
  fun m ρ _ => Cert.RwIdeal.Gen.frame m ρ,
  fr_RwRef,
  fun m ρ _ => Cert.Val.Gen.frame m ρ,
  fun m ρ _ => Cert.ValIdeal.Gen.frame m ρ,
  fr_ValRef,
  fun m ρ _ => Cert.Out.Gen.frame m ρ,
  fun m ρ _ => Cert.OutIdeal.Gen.frame m ρ,
  fr_OutRef,
  fun m ρ _ => Cert.Shared.Gen.frame m ρ,
  fun m ρ _ => Cert.SharedIdeal.Gen.frame m ρ,
  fr_SharedRef,
  fun m ρ _ => Cert.Combine.Gen.frame m ρ,
  fun m ρ _ => Cert.CombineIdeal.Gen.frame m ρ,
  fr_CombineRef,
  fun m ρ _ => Cert.Key.Gen.frame m ρ,
  fun m ρ _ => Cert.KeyIdeal.Gen.frame m ρ,
  fr_KeyRef,
  fun m ρ _ => Cert.Query.Gen.frame m ρ,
  fun m ρ _ => Cert.QueryIdeal.Gen.frame m ρ,
  fr_QueryRef,
  fun m ρ _ => Cert.Feat.Gen.frame m ρ,
  fun m ρ _ => Cert.FeatIdeal.Gen.frame m ρ,
  fr_FeatRef,
  trivial,
  attn,
  trivial,
  rw,
  trivial,
  val,
  trivial,
  out,
  trivial,
  shared,
  trivial,
  combine,
  trivial,
  key,
  trivial,
  query,
  trivial,
  feat⟩

end Cert.Proof

end
